-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x128 : Shape := ⟨2, ![16, 128]⟩
abbrev S16x128x2048 : Shape := ⟨3, ![16, 128, 2048]⟩
abbrev S4x16x128x2048 : Shape := ⟨4, ![4, 16, 128, 2048]⟩
abbrev S16 : Shape := ⟨1, ![16]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S16x128x2048 : S_.BroadcastsInDim S16x128x2048 (![] : Fin 0 → Fin S16x128x2048.rank)
  reducesTo_S16x128x2048_S_d0_1_2 : S16x128x2048.ReducesTo [0, 1, 2] S_
  bcast_S_S4x16x128x2048 : S_.BroadcastsInDim S4x16x128x2048 (![] : Fin 0 → Fin S4x16x128x2048.rank)
  reducesTo_S4x16x128x2048_S_d0_1_2_3 : S4x16x128x2048.ReducesTo [0, 1, 2, 3] S_

variable [Facts]

def fn_part1 {F : FTy → Type} [FloatOps F] (main_arg2 : IVec S16x128x2048 32) (main_arg3 : FVec F S4x16x128x2048 .f32) (main_v12 : IVec S_ 1) (main_v14 : IVec S16x128x2048 1) (main_v15 : IVec S16x128x2048 32) : IVec S_ 1 :=
  let main_v16 : IVec S16x128x2048 1 := cmpi .slt main_arg2 main_v15
  let main_v17 : IVec S16x128x2048 1 := andi main_v14 main_v16
  let main_c_7 : IVec S_ 1 := constantI S_ 1 1#1
  let main_v18 : IVec S_ 1 := (fun x v => Host.reduce IntOp.andi x v reducesTo_S16x128x2048_S_d0_1_2 h_S_) main_v17 main_c_7
  let main_v19 : IVec S_ 1 := andi main_v12 main_v18
  let main_v20 : FVec F S4x16x128x2048 .f32 := Host.absf main_arg3
  let main_cst : FVec F S_ .f32 := constant S_ .f32 0x7F800000#32
  let main_v21 : FVec F S4x16x128x2048 .f32 := broadcastInDim S4x16x128x2048 ![] bcast_S_S4x16x128x2048 main_cst
  let main_v22 : IVec S4x16x128x2048 1 := cmpf .olt main_v20 main_v21
  let main_c_8 : IVec S_ 1 := constantI S_ 1 1#1
  let main_v23 : IVec S_ 1 := (fun x v => Host.reduce IntOp.andi x v reducesTo_S4x16x128x2048_S_d0_1_2_3 h_S_) main_v22 main_c_8
  let main_v24 : IVec S_ 1 := andi main_v19 main_v23
  main_v24

def fn {F : FTy → Type} [FloatOps F] (main_arg0 : IVec S16x128 32) (main_arg1 : IVec S16x128 32) (main_arg2 : IVec S16x128x2048 32) (main_arg3 : FVec F S4x16x128x2048 .f32) (main_arg4 : IVec S16 32) : IVec S_ 1 :=
  let main_c : IVec S_ 32 := constantI S_ 32 0#32
  let main_v0 : IVec S16x128 32 := broadcastInDim S16x128 ![] bcast_S_S16x128 main_c
  let main_v1 : IVec S16x128 1 := cmpi .sge main_arg0 main_v0
  let main_c_0 : IVec S_ 32 := constantI S_ 32 128#32
  let main_v2 : IVec S16x128 32 := broadcastInDim S16x128 ![] bcast_S_S16x128 main_c_0
  let main_v3 : IVec S16x128 1 := cmpi .slt main_arg0 main_v2
  let main_v4 : IVec S16x128 1 := andi main_v1 main_v3
  let main_c_1 : IVec S_ 1 := constantI S_ 1 1#1
  let main_v5 : IVec S_ 1 := (fun x v => Host.reduce IntOp.andi x v reducesTo_S16x128_S_d0_1 h_S_) main_v4 main_c_1
  let main_c_2 : IVec S_ 32 := constantI S_ 32 0#32
  let main_v6 : IVec S16x128 32 := broadcastInDim S16x128 ![] bcast_S_S16x128 main_c_2
  let main_v7 : IVec S16x128 1 := cmpi .sge main_arg1 main_v6
  let main_c_3 : IVec S_ 32 := constantI S_ 32 128#32
  let main_v8 : IVec S16x128 32 := broadcastInDim S16x128 ![] bcast_S_S16x128 main_c_3
  let main_v9 : IVec S16x128 1 := cmpi .slt main_arg1 main_v8
  let main_v10 : IVec S16x128 1 := andi main_v7 main_v9
  let main_c_4 : IVec S_ 1 := constantI S_ 1 1#1
  let main_v11 : IVec S_ 1 := (fun x v => Host.reduce IntOp.andi x v reducesTo_S16x128_S_d0_1 h_S_) main_v10 main_c_4
  let main_v12 : IVec S_ 1 := andi main_v5 main_v11
  let main_c_5 : IVec S_ 32 := constantI S_ 32 0#32
  let main_v13 : IVec S16x128x2048 32 := broadcastInDim S16x128x2048 ![] bcast_S_S16x128x2048 main_c_5
  let main_v14 : IVec S16x128x2048 1 := cmpi .sge main_arg2 main_v13
  let main_c_6 : IVec S_ 32 := constantI S_ 32 2#32
  let main_v15 : IVec S16x128x2048 32 := broadcastInDim S16x128x2048 ![] bcast_S_S16x128x2048 main_c_6
  fn_part1 (F := F) main_arg2 main_arg3 main_v12 main_v14 main_v15
-- ==== Kernel.lean ====
abbrev S16x128 : Shape := ⟨2, ![16, 128]⟩
abbrev S16x128x2048 : Shape := ⟨3, ![16, 128, 2048]⟩
abbrev S4x16x128x2048 : Shape := ⟨4, ![4, 16, 128, 2048]⟩
abbrev S16 : Shape := ⟨1, ![16]⟩
abbrev S16x1x128 : Shape := ⟨3, ![16, 1, 128]⟩
abbrev S8x128 : Shape := ⟨2, ![8, 128]⟩
abbrev S1x1x128 : Shape := ⟨3, ![1, 1, 128]⟩
abbrev S1x128x2048 : Shape := ⟨3, ![1, 128, 2048]⟩
abbrev S4x1x128x2048 : Shape := ⟨4, ![4, 1, 128, 2048]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S128x2048 : Shape := ⟨2, ![128, 2048]⟩
abbrev S1x1x128x2048 : Shape := ⟨4, ![1, 1, 128, 2048]⟩
abbrev S1x128x1 : Shape := ⟨3, ![1, 128, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S2x1x128 : Shape := ⟨3, ![2, 1, 128]⟩
abbrev S2x128x2048 : Shape := ⟨3, ![2, 128, 2048]⟩
abbrev S256 : Shape := ⟨1, ![256]⟩
abbrev S524288 : Shape := ⟨1, ![524288]⟩
abbrev S16777216 : Shape := ⟨1, ![16777216]⟩
abbrev S32x16 : Shape := ⟨2, ![32, 16]⟩
abbrev S32 : Shape := ⟨1, ![32]⟩
abbrev S16384 : Shape := ⟨1, ![16384]⟩
abbrev S8 : Shape := ⟨1, ![8]⟩
abbrev S1x16 : Shape := ⟨2, ![1, 16]⟩

abbrev nBuf : Table → Nat
  | .hbm => 23
  | .local .tc .vmem => 19
  | .local .scVector .vmem => 6
  | _ => 0

abbrev bufTy : (tb : Table) → Fin (nBuf tb) → BufTy
  | .hbm, ⟨0, _⟩ => ⟨S16x128, .i32⟩
  | .hbm, ⟨1, _⟩ => ⟨S16x128, .i32⟩
  | .hbm, ⟨2, _⟩ => ⟨S16x128x2048, .i32⟩
  | .hbm, ⟨3, _⟩ => ⟨S4x16x128x2048, .f32⟩
  | .hbm, ⟨4, _⟩ => ⟨S16, .i32⟩
  | .hbm, ⟨5, _⟩ => ⟨S16x1x128, .i32⟩
  | .hbm, ⟨6, _⟩ => ⟨S16x1x128, .i32⟩
  | .hbm, ⟨7, _⟩ => ⟨S8x128, .f32⟩
  | .hbm, ⟨8, _⟩ => ⟨S1x1, .f32⟩
  | .hbm, ⟨9, _⟩ => ⟨S_, .f32⟩
  | .hbm, ⟨10, _⟩ => ⟨S16x1x128, .i32⟩
  | .hbm, ⟨11, _⟩ => ⟨S16x1x128, .i32⟩
  | .hbm, ⟨12, _⟩ => ⟨S2x1x128, .f32⟩
  | .hbm, ⟨13, _⟩ => ⟨S2x128x2048, .f32⟩
  | .hbm, ⟨14, _⟩ => ⟨S256, .f32⟩
  | .hbm, ⟨15, _⟩ => ⟨S524288, .f32⟩
  | .hbm, ⟨16, _⟩ => ⟨S16777216, .f32⟩
  | .hbm, ⟨17, _⟩ => ⟨S32x16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local .tc .vmem, ⟨0, _⟩ => ⟨S1x1x128, .i32⟩
  | .local .tc .vmem, ⟨1, _⟩ => ⟨S1x1x128, .i32⟩
  | .local .tc .vmem, ⟨2, _⟩ => ⟨S1x1x128, .i32⟩
  | .local .tc .vmem, ⟨3, _⟩ => ⟨S1x1x128, .i32⟩
  | .local .tc .vmem, ⟨4, _⟩ => ⟨S1x128x2048, .i32⟩
  | .local .tc .vmem, ⟨5, _⟩ => ⟨S1x128x2048, .i32⟩
  | .local .tc .vmem, ⟨6, _⟩ => ⟨S4x1x128x2048, .f32⟩
  | .local .tc .vmem, ⟨7, _⟩ => ⟨S4x1x128x2048, .f32⟩
  | .local .tc .vmem, ⟨8, _⟩ => ⟨S8x128, .f32⟩
  | .local .tc .vmem, ⟨9, _⟩ => ⟨S1x1x128, .i32⟩
  | .local .tc .vmem, ⟨10, _⟩ => ⟨S1x1x128, .i32⟩
  | .local .tc .vmem, ⟨11, _⟩ => ⟨S1x1x128, .i32⟩
  | .local .tc .vmem, ⟨12, _⟩ => ⟨S1x1x128, .i32⟩
  | .local .tc .vmem, ⟨13, _⟩ => ⟨S1x128x2048, .i32⟩
  | .local .tc .vmem, ⟨14, _⟩ => ⟨S1x128x2048, .i32⟩
  | .local .tc .vmem, ⟨15, _⟩ => ⟨S1x1x128, .f32⟩
  | .local .tc .vmem, ⟨16, _⟩ => ⟨S1x1x128, .f32⟩
  | .local .tc .vmem, ⟨17, _⟩ => ⟨S1x128x2048, .f32⟩
  | .local .tc .vmem, ⟨18, _⟩ => ⟨S1x128x2048, .f32⟩
  | .local .scVector .vmem, ⟨0, _⟩ => ⟨S32, .f32⟩
  | .local .scVector .vmem, ⟨1, _⟩ => ⟨S32, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | .local .scVector .vmem, ⟨5, _⟩ => ⟨S16, .f32⟩
  | _, _ => ⟨S16x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v8_scv : Ref sig .scVector := ⟨.hbm, 14, rfl⟩
abbrev main_v9_scv : Ref sig .scVector := ⟨.hbm, 15, rfl⟩
abbrev main_v10_scv : Ref sig .scVector := ⟨.hbm, 16, rfl⟩
abbrev main_v11_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v104 : BitVec 1 := Scalar.cmpi .eq arg0 c0_i32
  let v105 : BitVec 32 := Scalar.extui v104
  let c0_i32_47 : BitVec 32 := 0#32
  let v106 : BitVec 1 := Scalar.cmpi .ne v105 c0_i32_47
  v106

def k0_cond2 (i : grid0.Coords) : BitVec 1 :=
  let arg0 : BitVec 32 := BitVec.ofNat 32 (i 0).val
  let c0_i32_48 : BitVec 32 := 0#32
  let v107 : BitVec 1 := Scalar.cmpi .sgt arg0 c0_i32_48
  let v108 : BitVec 32 := Scalar.extui v107
  let c0_i32_49 : BitVec 32 := 0#32
  let v109 : BitVec 1 := Scalar.cmpi .ne v108 c0_i32_49
  v109

def cc0_transform_0 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  ![v2.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2048_i32 : BitVec 32 := 2048#32
  let v13 : BitVec 32 := Scalar.muli v2 c2048_i32
  ![v13.toNat]
def k2_off3 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c2048_i32_1 : BitVec 32 := 2048#32
  let v16 : BitVec 32 := Scalar.muli v2 c2048_i32_1
  ![v16.toNat]
def k2_off4 (i : grid2.Coords) (c2048_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v30 : BitVec 32 := Scalar.addi c2048_i32_4 v2
  let c2048_i32_5 : BitVec 32 := 2048#32
  let v31 : BitVec 32 := Scalar.muli v30 c2048_i32_5
  ![v31.toNat]
@[reducible] def k2_t1_loop : Scf.Loop 32 :=
  let c0_i32 : BitVec 32 := 0#32
  let c8_i32_6 : BitVec 32 := 8#32
  let v34 : BitVec 32 := Scalar.addi c0_i32 c8_i32_6
  let c1_i32_7 : BitVec 32 := 1#32
  ⟨c0_i32, v34, c1_i32_7⟩
@[reducible] def k2_t2_loop : Scf.Loop 32 :=
  let c0_i32_25 : BitVec 32 := 0#32
  let c16_i32 : BitVec 32 := 16#32
  let v60 : BitVec 32 := Scalar.addi c0_i32_25 c16_i32
  let c1_i32_26 : BitVec 32 := 1#32
  ⟨c0_i32_25, v60, c1_i32_26⟩
def k2_off5 (k2_t1 : Fin k2_t1_loop.trips) (k2_t2 : Fin k2_t2_loop.trips) (c0_i32_37 : BitVec 32) : Fin 1 → Nat :=
  let c0_i32 : BitVec 32 := 0#32
  let c1_i32_7 : BitVec 32 := 1#32
  let arg15 : BitVec 32 := Scf.iv c0_i32 c1_i32_7 k2_t1
  let c2048_i32_39 : BitVec 32 := 2048#32
  let v108 : BitVec 32 := Scalar.muli arg15 c2048_i32_39
  let c0_i32_25 : BitVec 32 := 0#32
  let c1_i32_26 : BitVec 32 := 1#32
  let arg17 : BitVec 32 := Scf.iv c0_i32_25 c1_i32_26 k2_t2
  let c8_i32_36 : BitVec 32 := 8#32
  let v105 : BitVec 32 := Scalar.muli arg17 c8_i32_36
  let v106 : BitVec 32 := Scalar.addi v105 c0_i32_37
  let c16_i32_38 : BitVec 32 := 16#32
  let v107 : BitVec 32 := Scalar.muli v106 c16_i32_38
  let v109 : BitVec 32 := Scalar.addi v108 v107
  let v110 : Index := Scalar.indexCast v109
  ![v110.toNat]
def k2_off6 (k2_t1 : Fin k2_t1_loop.trips) : Fin 1 → Nat :=
  let c0_i32 : BitVec 32 := 0#32
  let c1_i32_7 : BitVec 32 := 1#32
  let arg15 : BitVec 32 := Scf.iv c0_i32 c1_i32_7 k2_t1
  let v89 : Index := Scalar.indexCast arg15
  ![v89.toNat]
@[reducible] def k2_t3_loop : Scf.Loop 32 :=
  let c0_i32_10 : BitVec 32 := 0#32
  let c8_i32_11 : BitVec 32 := 8#32
  let v42 : BitVec 32 := Scalar.addi c0_i32_10 c8_i32_11
  let c1_i32_12 : BitVec 32 := 1#32
  ⟨c0_i32_10, v42, c1_i32_12⟩
@[reducible] def k2_t4_loop : Scf.Loop 32 :=
  let c0_i32_25 : BitVec 32 := 0#32
  let c16_i32 : BitVec 32 := 16#32
  let v60 : BitVec 32 := Scalar.addi c0_i32_25 c16_i32
  let c1_i32_26 : BitVec 32 := 1#32
  ⟨c0_i32_25, v60, c1_i32_26⟩
def k2_off7 (k2_t3 : Fin k2_t3_loop.trips) (k2_t4 : Fin k2_t4_loop.trips) (c0_i32_35 : BitVec 32) : Fin 1 → Nat :=
  let c0_i32_10 : BitVec 32 := 0#32
  let c1_i32_12 : BitVec 32 := 1#32
  let arg15 : BitVec 32 := Scf.iv c0_i32_10 c1_i32_12 k2_t3
  let c2048_i32_37 : BitVec 32 := 2048#32
  let v102 : BitVec 32 := Scalar.muli arg15 c2048_i32_37
  let c0_i32_25 : BitVec 32 := 0#32
  let c1_i32_26 : BitVec 32 := 1#32
  let arg17 : BitVec 32 := Scf.iv c0_i32_25 c1_i32_26 k2_t4
  let c8_i32_34 : BitVec 32 := 8#32
  let v99 : BitVec 32 := Scalar.muli arg17 c8_i32_34
  let v100 : BitVec 32 := Scalar.addi v99 c0_i32_35
  let c16_i32_36 : BitVec 32 := 16#32
  let v101 : BitVec 32 := Scalar.muli v100 c16_i32_36
  let v103 : BitVec 32 := Scalar.addi v102 v101
  let v104 : Index := Scalar.indexCast v103
  ![v104.toNat]
def k2_off8 (k2_t3 : Fin k2_t3_loop.trips) : Fin 1 → Nat :=
  let c0_i32_10 : BitVec 32 := 0#32
  let c1_i32_12 : BitVec 32 := 1#32
  let arg15 : BitVec 32 := Scf.iv c0_i32_10 c1_i32_12 k2_t3
  let v89 : Index := Scalar.indexCast arg15
  ![v89.toNat]
@[reducible] def k2_t5_loop : Scf.Loop 32 :=
  let c0_i32_15 : BitVec 32 := 0#32
  let c8_i32_16 : BitVec 32 := 8#32
  let v50 : BitVec 32 := Scalar.addi c0_i32_15 c8_i32_16
  let c1_i32_17 : BitVec 32 := 1#32
  ⟨c0_i32_15, v50, c1_i32_17⟩
@[reducible] def k2_t6_loop : Scf.Loop 32 :=
  let c0_i32_25 : BitVec 32 := 0#32
  let c16_i32 : BitVec 32 := 16#32
  let v60 : BitVec 32 := Scalar.addi c0_i32_25 c16_i32
  let c1_i32_26 : BitVec 32 := 1#32
  ⟨c0_i32_25, v60, c1_i32_26⟩
def k2_off9 (k2_t5 : Fin k2_t5_loop.trips) (k2_t6 : Fin k2_t6_loop.trips) (c0_i32_35 : BitVec 32) : Fin 1 → Nat :=
  let c0_i32_15 : BitVec 32 := 0#32
  let c1_i32_17 : BitVec 32 := 1#32
  let arg15 : BitVec 32 := Scf.iv c0_i32_15 c1_i32_17 k2_t5
  let c2048_i32_37 : BitVec 32 := 2048#32
  let v102 : BitVec 32 := Scalar.muli arg15 c2048_i32_37
  let c0_i32_25 : BitVec 32 := 0#32
  let c1_i32_26 : BitVec 32 := 1#32
  let arg17 : BitVec 32 := Scf.iv c0_i32_25 c1_i32_26 k2_t6
  let c8_i32_34 : BitVec 32 := 8#32
  let v99 : BitVec 32 := Scalar.muli arg17 c8_i32_34
  let v100 : BitVec 32 := Scalar.addi v99 c0_i32_35
  let c16_i32_36 : BitVec 32 := 16#32
  let v101 : BitVec 32 := Scalar.muli v100 c16_i32_36
  let v103 : BitVec 32 := Scalar.addi v102 v101
  let v104 : Index := Scalar.indexCast v103
  ![v104.toNat]
def k2_off10 (k2_t5 : Fin k2_t5_loop.trips) : Fin 1 → Nat :=
  let c0_i32_15 : BitVec 32 := 0#32
  let c1_i32_17 : BitVec 32 := 1#32
  let arg15 : BitVec 32 := Scf.iv c0_i32_15 c1_i32_17 k2_t5
  let v89 : Index := Scalar.indexCast arg15
  ![v89.toNat]
@[reducible] def k2_t7_loop : Scf.Loop 32 :=
  let c0_i32_19 : BitVec 32 := 0#32
  let c8_i32_20 : BitVec 32 := 8#32
  let v54 : BitVec 32 := Scalar.addi c0_i32_19 c8_i32_20
  let c1_i32_21 : BitVec 32 := 1#32
  ⟨c0_i32_19, v54, c1_i32_21⟩
@[reducible] def k2_t8_loop : Scf.Loop 32 :=
  let c0_i32_25 : BitVec 32 := 0#32
  let c16_i32 : BitVec 32 := 16#32
  let v60 : BitVec 32 := Scalar.addi c0_i32_25 c16_i32
  let c1_i32_26 : BitVec 32 := 1#32
  ⟨c0_i32_25, v60, c1_i32_26⟩
def k2_off11 (k2_t7 : Fin k2_t7_loop.trips) (k2_t8 : Fin k2_t8_loop.trips) (c0_i32_35 : BitVec 32) : Fin 1 → Nat :=
  let c0_i32_19 : BitVec 32 := 0#32
  let c1_i32_21 : BitVec 32 := 1#32
  let arg15 : BitVec 32 := Scf.iv c0_i32_19 c1_i32_21 k2_t7
  let c2048_i32_37 : BitVec 32 := 2048#32
  let v102 : BitVec 32 := Scalar.muli arg15 c2048_i32_37
  let c0_i32_25 : BitVec 32 := 0#32
  let c1_i32_26 : BitVec 32 := 1#32
  let arg17 : BitVec 32 := Scf.iv c0_i32_25 c1_i32_26 k2_t8
  let c8_i32_34 : BitVec 32 := 8#32
  let v99 : BitVec 32 := Scalar.muli arg17 c8_i32_34
  let v100 : BitVec 32 := Scalar.addi v99 c0_i32_35
  let c16_i32_36 : BitVec 32 := 16#32
  let v101 : BitVec 32 := Scalar.muli v100 c16_i32_36
  let v103 : BitVec 32 := Scalar.addi v102 v101
  let v104 : Index := Scalar.indexCast v103
  ![v104.toNat]
def k2_off12 (k2_t7 : Fin k2_t7_loop.trips) : Fin 1 → Nat :=
  let c0_i32_19 : BitVec 32 := 0#32
  let c1_i32_21 : BitVec 32 := 1#32
  let arg15 : BitVec 32 := Scf.iv c0_i32_19 c1_i32_21 k2_t7
  let v89 : Index := Scalar.indexCast arg15
  ![v89.toNat]
def k2_off13 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128 : Shape := ⟨2, ![16, 128]⟩
abbrev S16x128x2048 : Shape := ⟨3, ![16, 128, 2048]⟩
abbrev S4x16x128x2048 : Shape := ⟨4, ![4, 16, 128, 2048]⟩
abbrev S16 : Shape := ⟨1, ![16]⟩
abbrev S16x128x1 : Shape := ⟨3, ![16, 128, 1]⟩
abbrev S128 : Shape := ⟨1, ![128]⟩
abbrev S1x1x128 : Shape := ⟨3, ![1, 1, 128]⟩
abbrev S16x128x128 : Shape := ⟨3, ![16, 128, 128]⟩
abbrev S_ : Shape := ⟨0, ![]⟩
abbrev S1 : Shape := ⟨1, ![1]⟩
abbrev S1x1x1 : Shape := ⟨3, ![1, 1, 1]⟩
abbrev S16x1 : Shape := ⟨2, ![16, 1]⟩
abbrev S16x128x2 : Shape := ⟨3, ![16, 128, 2]⟩
abbrev S1x16x128x1 : Shape := ⟨4, ![1, 16, 128, 1]⟩
abbrev S1x16x128x2048 : Shape := ⟨4, ![1, 16, 128, 2048]⟩
abbrev S4x16x128 : Shape := ⟨3, ![4, 16, 128]⟩
abbrev S1x16x128 : Shape := ⟨3, ![1, 16, 128]⟩

abbrev nBuf : Space → Nat
  | .hbm => 129
  | .vmem => 0
  | .smem => 0
  | _ => 0

abbrev hbmTy0_0 (i : Nat) : BufTy := match i % 128 with
  | 0 => ⟨S16x128, .i32⟩
  | 1 => ⟨S16x128, .i32⟩
  | 2 => ⟨S16x128x2048, .i32⟩
  | 3 => ⟨S4x16x128x2048, .f32⟩
  | 4 => ⟨S16, .i32⟩
  | 5 => ⟨S16x128x1, .i32⟩
  | 6 => ⟨S128, .i32⟩
  | 7 => ⟨S1x1x128, .i32⟩
  | 8 => ⟨S16x128x128, .i32⟩
  | 9 => ⟨S16x128x128, .i32⟩
  | 10 => ⟨S16x128x128, .i1⟩
  | 11 => ⟨S_, .i1⟩
  | 12 => ⟨S16x128, .i1⟩
  | 13 => ⟨S16x128x128, .i32⟩
  | 14 => ⟨S_, .i1⟩
  | 15 => ⟨S_, .i32⟩
  | 16 => ⟨S16x128, .i1⟩
  | 17 => ⟨S16x128, .i32⟩
  | 18 => ⟨S_, .i32⟩
  | 19 => ⟨S16x128, .i32⟩
  | 20 => ⟨S16x128, .i1⟩
  | 21 => ⟨S_, .i32⟩
  | 22 => ⟨S16x128, .i32⟩
  | 23 => ⟨S16x128, .i32⟩
  | 24 => ⟨S16x128, .i32⟩
  | 25 => ⟨S16x128x1, .i32⟩
  | 26 => ⟨S1, .i32⟩
  | 27 => ⟨S_, .i32⟩
  | 28 => ⟨S16x128x1, .i32⟩
  | 29 => ⟨S16x128x1, .i1⟩
  | 30 => ⟨S1x1x1, .i32⟩
  | 31 => ⟨S16x128x1, .i32⟩
  | 32 => ⟨S16x128x1, .i1⟩
  | 33 => ⟨S16x128x1, .i1⟩
  | 34 => ⟨S_, .i1⟩
  | 35 => ⟨S16x128, .i1⟩
  | 36 => ⟨S16x128, .i32⟩
  | 37 => ⟨S_, .i32⟩
  | 38 => ⟨S16x128, .i32⟩
  | 39 => ⟨S16x128, .i32⟩
  | 40 => ⟨S16, .i32⟩
  | 41 => ⟨S16x1, .i32⟩
  | 42 => ⟨S_, .i32⟩
  | 43 => ⟨S16x1, .i32⟩
  | 44 => ⟨S16x1, .i1⟩
  | 45 => ⟨S_, .i32⟩
  | 46 => ⟨S16x1, .i32⟩
  | 47 => ⟨S16x1, .i32⟩
  | 48 => ⟨S16x1, .i32⟩
  | 49 => ⟨S_, .i32⟩
  | 50 => ⟨S16x128, .i32⟩
  | 51 => ⟨S16x128, .i1⟩
  | 52 => ⟨S_, .i32⟩
  | 53 => ⟨S16x128, .i32⟩
  | 54 => ⟨S16x128, .i32⟩
  | 55 => ⟨S16x128, .i32⟩
  | 56 => ⟨S16x128, .i32⟩
  | 57 => ⟨S16x128x1, .i32⟩
  | 58 => ⟨S16x128x1, .i32⟩
  | 59 => ⟨S16x128x2, .i32⟩
  | 60 => ⟨S16x128x2048, .i32⟩
  | 61 => ⟨S1x16x128x1, .i32⟩
  | 62 => ⟨S_, .i32⟩
  | 63 => ⟨S1x16x128x1, .i32⟩
  | 64 => ⟨S1x16x128x1, .i1⟩
  | 65 => ⟨S_, .i32⟩
  | 66 => ⟨S1x16x128x1, .i32⟩
  | 67 => ⟨S1x16x128x1, .i32⟩
  | 68 => ⟨S1x16x128x1, .i32⟩
  | 69 => ⟨S16x128x1, .i32⟩
  | 70 => ⟨S1, .i32⟩
  | 71 => ⟨S_, .i32⟩
  | 72 => ⟨S16x128x1, .i32⟩
  | 73 => ⟨S16x128x1, .i1⟩
  | 74 => ⟨S1x1x1, .i32⟩
  | 75 => ⟨S16x128x1, .i32⟩
  | 76 => ⟨S16x128x1, .i1⟩
  | 77 => ⟨S16x128x1, .i1⟩
  | 78 => ⟨S_, .i1⟩
  | 79 => ⟨S16x128, .i1⟩
  | 80 => ⟨S4x16x128x2048, .f32⟩
  | 81 => ⟨S4x16x128x2048, .i1⟩
  | 82 => ⟨S_, .f32⟩
  | 83 => ⟨S4x16x128x2048, .f32⟩
  | 84 => ⟨S4x16x128x2048, .f32⟩
  | 85 => ⟨S_, .i32⟩
  | 86 => ⟨S16x128x2048, .i32⟩
  | 87 => ⟨S16x128x2048, .i1⟩
  | 88 => ⟨S16x128x2048, .f32⟩
  | 89 => ⟨S1x16x128x2048, .f32⟩
  | 90 => ⟨S_, .i32⟩
  | 91 => ⟨S16x128x2048, .i32⟩
  | 92 => ⟨S16x128x2048, .i1⟩
  | 93 => ⟨S16x128x2048, .f32⟩
  | 94 => ⟨S1x16x128x2048, .f32⟩
  | 95 => ⟨S4x16x128x2048, .f32⟩
  | 96 => ⟨S4x16x128x2048, .f32⟩
  | 97 => ⟨S_, .f32⟩
  | 98 => ⟨S4x16x128, .f32⟩
  | 99 => ⟨S4x16x128x2048, .f32⟩
  | 100 => ⟨S4x16x128x2048, .f32⟩
  | 101 => ⟨S_, .f32⟩
  | 102 => ⟨S4x16x128, .f32⟩
  | 103 => ⟨S4x16x128, .f32⟩
  | 104 => ⟨S_, .f32⟩
  | 105 => ⟨S4x16x128, .f32⟩
  | 106 => ⟨S4x16x128, .f32⟩
  | 107 => ⟨S_, .f32⟩
  | 108 => ⟨S4x16x128, .f32⟩
  | 109 => ⟨S4x16x128, .f32⟩
  | 110 => ⟨S1x16x128, .i1⟩
  | 111 => ⟨S1x16x128, .f32⟩
  | 112 => ⟨S4x16x128, .f32⟩
  | 113 => ⟨S4x16x128, .f32⟩
  | 114 => ⟨S_, .f32⟩
  | 115 => ⟨S_, .f32⟩
  | 116 => ⟨S16x128, .i32⟩
  | 117 => ⟨S_, .i32⟩
  | 118 => ⟨S_, .i32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x128, .i32⟩

abbrev hbmTy0_1 (i : Nat) : BufTy := match i % 128 with
  | 0 => ⟨S_, .f32⟩
  | _ => ⟨S16x128, .i32⟩

abbrev hbmTy (i : Nat) : BufTy := match i / 128 with
  | 0 => hbmTy0_0 i
  | 1 => hbmTy0_1 i
  | _ => ⟨S16x128, .i32⟩

abbrev bufTy : (tb : Table) → Fin (tcTables nBuf tb) → BufTy
  | .hbm, ⟨i, _⟩ => hbmTy i
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_c_0 : Ref sig .tc := ⟨.hbm, 15, rfl⟩
abbrev main_call0_v1_0 : Ref sig .tc := ⟨.hbm, 16, rfl⟩
abbrev main_v7 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_c_4 : Ref sig .tc := ⟨.hbm, 37, rfl⟩
abbrev main_call1_v14 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_0 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v27 : Ref sig .tc := ⟨.hbm, 84, rfl⟩
abbrev main_c_4 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_5 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_cst : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_6 : Ref sig .tc := ⟨.hbm, 101, rfl⟩
abbrev main_v41 : Ref sig .tc := ⟨.hbm, 102, rfl⟩
abbrev main_v42 : Ref sig .tc := ⟨.hbm, 103, rfl⟩
abbrev main_cst_7 : Ref sig .tc := ⟨.hbm, 104, rfl⟩
abbrev main_v43 : Ref sig .tc := ⟨.hbm, 105, rfl⟩
abbrev main_v44 : Ref sig .tc := ⟨.hbm, 106, rfl⟩
abbrev main_cst_8 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_cst_9 : Ref sig .tc := ⟨.hbm, 114, rfl⟩
abbrev main_v51 : Ref sig .tc := ⟨.hbm, 115, rfl⟩
abbrev main_v52 : Ref sig .tc := ⟨.hbm, 116, rfl⟩
abbrev main_c_10 : Ref sig .tc := ⟨.hbm, 117, rfl⟩
abbrev main_v53 : Ref sig .tc := ⟨.hbm, 118, rfl⟩
abbrev main_v54 : Ref sig .tc := ⟨.hbm, 119, rfl⟩
abbrev main_cst_11 : Ref sig .tc := ⟨.hbm, 120, rfl⟩
abbrev main_v55 : Ref sig .tc := ⟨.hbm, 121, rfl⟩
abbrev main_cst_12 : Ref sig .tc := ⟨.hbm, 122, rfl⟩
abbrev main_v56 : Ref sig .tc := ⟨.hbm, 123, rfl⟩
abbrev main_cst_13 : Ref sig .tc := ⟨.hbm, 124, rfl⟩
abbrev main_v57 : Ref sig .tc := ⟨.hbm, 125, rfl⟩
abbrev main_v58 : Ref sig .tc := ⟨.hbm, 126, rfl⟩
abbrev main_cst_14 : Ref sig .tc := ⟨.hbm, 127, rfl⟩
abbrev main_v59 : Ref sig .tc := ⟨.hbm, 128, rfl⟩

abbrev nD : Nat := 1
abbrev τ : Topo := Topo.v7x

variable {F : FTy → Type} [FloatOps F]
-- ==== Proof.Setup.lean ====
/-
  What the launch theorem is given of this program: the kernel's tables (two TensorCore pipelines beside one SparseCore
  call), the resource algebra (the handshakes' rounds, the pipelines' rounds, the transfers' counters) and the arrays'
  names.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' rounds, and their product with the transfers' counters. -/
abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL
/-- The pipelines' rounds, the left factor of the right. -/
abbrev EP : Emb UP (MM F) := (Emb.inl : Emb UP (UP × Counters)).trans embR

example : (EP : Emb UP (MM F)).LandsIn (upEmb : UEmb _ (MM F)) := inferInstance

end Cert.Proof

end
-- ==== Proof.Blocks.lean ====
/-
  What the two TensorCore bodies leave in their staging buffers: each body run once, over any whole staging buffers, its
  stores read back as values of what the input buffers read.
-/
module

public import proofs.«01_k».proof.Proof.Setup
public import Idealize.ShloMosaic.Lib.Pipeline.Value

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole buffer's ownership at what it reads: the buffer held at some contents reading so. -/
theorem owns_read (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the rectangle at offset zero of the buffer's own size leaves its payload. -/
theorem read_store {sp : Space} {S : Shape} {e : EltTy} (M : Memref sig .tc sp S e) (f : M.view.ty.Contents (Elt F)) {off : Fin S.rank → Nat} (h : off = fun _ => 0)
    (inb : ∀ a, off a + S.size a ≤ S.size a) (w : S.Idx → Elt F e) :
    M.view.read (Elt F) (M.view.writes (Elt F) f [⟨Rect.unit off S.size inb, w⟩]) = w := by
  subst h; exact View.read_writes_whole _ _ _

/-- A load through it reads the whole buffer. -/
theorem read_load {sp : Space} {S : Shape} {e : EltTy} (M : Memref sig .tc sp S e) (f : M.view.ty.Contents (Elt F)) {off : Fin S.rank → Nat} (h : off = fun _ => 0)
    (inb : ∀ a, off a + S.size a ≤ S.size a) :
    M.view.readAt (Elt F) (Rect.unit off S.size inb) f = M.view.read (Elt F) f :=
  (View.readAt_eq_ld _ _ _).trans (View.ld_unit_zero h inb _)

/-- What the second call's body leaves of the mask block and of the sign block. -/
def maskBlk (x0 : Vec F S1x1x128 .i32) : Vec F S1x1x128 .f32 := k1_pay2 x0
def signBlk (x1 : Vec F S1x1x128 .i32) (x2 : Vec F S1x128x2048 .i32) : Vec F S1x128x2048 .f32 := k1_pay1 (k1_pay3 x1 x2)

/-- The second call's body, run. -/
theorem prep_run (c : Dev nD) (i : grid1.Coords) (M0 : Memref sig .tc .vmem S1x1x128 .i32) (h0 : M0.IsWhole) (M1 : Memref sig .tc .vmem S1x1x128 .i32) (h1 : M1.IsWhole)
    (M2 : Memref sig .tc .vmem S1x128x2048 .i32) (h2 : M2.IsWhole) (M3 : Memref sig .tc .vmem S1x1x128 .f32) (h3 : M3.IsWhole) (M4 : Memref sig .tc .vmem S1x128x2048 .f32) (h4 : M4.IsWhole)
    (f0 : Bf (F := F) c M0) (f1 : Bf (F := F) c M1) (f2 : Bf (F := F) c M2) (f3 : Bf (F := F) c M3) (f4 : Bf (F := F) c M4) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2
            ∗ (∃ g : Bf (F := F) c M3, ⌜M3.view.read (Elt F) g = maskBlk (M0.view.read (Elt F) f0)⌝ ∗ pt c M3 g)
            ∗ (∃ g : Bf (F := F) c M4, ⌜M4.view.read (Elt F) g = signBlk (M1.view.read (Elt F) f1) (M2.view.read (Elt F) f2)⌝ ∗ pt c M4 g)) -∗ Q ⟨⟩))
      ⊢ wp frame (wpE (defs₀ (F := F)) 𝒱₀ (c : Thread nD τ) none) Set.univ (cc1__prep_body i M0 h0 M1 h1 M2 h2 M3 h3 M4 h4) Q := by
  rw [cc1__prep_body_eq_skeleton]
  unfold cc1__prep_body_skel
  rw [k1_part1_eq_skeleton]
  unfold k1_part1_skel
  iintro ⟨H0, H1, H2, H3, H4, Hk⟩
  sl_exec!
  sl_step
  iapply Hk
  isplitl [H0]; · iexact H0
  isplitl [H1]; · iexact H1
  isplitl [H2]; · iexact H2
  isplitl [H3]
  · iexists _; isplitr; swap; · iexact H3
    ipureintro
    refine (read_store M3 _ hz3 _ _).trans ?_
    sl_unfold_words
    exact congrArg _ (read_load M0 f0 hz3 _)
  iexists _; isplitr; swap; · iexact H4
  ipureintro
  refine (read_store M4 _ hz3 _ _).trans ?_
  sl_unfold_words
  exact congrArg _ (congrArg₂ k1_pay3 (read_load M1 f1 hz3 _) (read_load M2 f2 hz3 _))

/-- Slab `n` of the four of an attention block. -/
def att (n : ℕ) (h : ∀ a, (![n, 0, 0, 0] : Fin 4 → ℕ) a + S1x1x128x2048.size a ≤ S4x1x128x2048.size a) (x3 : Vec F S4x1x128x2048 .f32) : Vec F S1x1x128x2048 .f32 :=
  View.ld x3 (Rect.unit (s := S4x1x128x2048) ![n, 0, 0, 0] S1x1x128x2048.size h)

/-- One grid point's sum, spread over a tile. -/
def partTile (x0 x1 : Vec F S1x1x128 .i32) (x2 : Vec F S1x128x2048 .i32) (x3 : Vec F S4x1x128x2048 .f32) : Vec F S8x128 .f32 :=
  k0_pay1 (k0_pay3 x0) (k0_pay4 x1 x2)
    (k0_pay6 (k0_pay3 x0) (k0_pay4 x1 x2) (k0_pay5 x1 x2 (att 0 inb_S4x1x128x2048_S1x1x128x2048_0_0_0_0 x3)) (att 1 inb_S4x1x128x2048_S1x1x128x2048_1_0_0_0 x3))
    (k0_pay7 (k0_pay3 x0) (k0_pay4 x1 x2) (att 2 inb_S4x1x128x2048_S1x1x128x2048_2_0_0_0 x3)) (att 3 inb_S4x1x128x2048_S1x1x128x2048_3_0_0_0 x3)

/-- The first call's body at its first point: the tile. -/
theorem first_run (c : Dev nD) (i : grid0.Coords) (hc1 : k0_cond1 i = 1#1) (hc2 : ¬k0_cond2 i = 1#1)
    (M0 : Memref sig .tc .vmem S1x1x128 .i32) (h0 : M0.IsWhole) (M1 : Memref sig .tc .vmem S1x1x128 .i32) (h1 : M1.IsWhole)
    (M2 : Memref sig .tc .vmem S1x128x2048 .i32) (h2 : M2.IsWhole) (M3 : Memref sig .tc .vmem S4x1x128x2048 .f32) (h3 : M3.IsWhole) (M4 : Memref sig .tc .vmem S8x128 .f32) (h4 : M4.IsWhole)
    (f0 : Bf (F := F) c M0) (f1 : Bf (F := F) c M1) (f2 : Bf (F := F) c M2) (f3 : Bf (F := F) c M3) (f4 : Bf (F := F) c M4) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ (∃ g : Bf (F := F) c M4, ⌜M4.view.read (Elt F) g
                = partTile (M0.view.read (Elt F) f0) (M1.view.read (Elt F) f1) (M2.view.read (Elt F) f2) (M3.view.read (Elt F) f3)⌝ ∗ pt c M4 g)) -∗ Q ⟨⟩))
      ⊢ wp frame (wpE (defs₀ (F := F)) 𝒱₀ (c : Thread nD τ) none) Set.univ (cc0__tc_body i M0 h0 M1 h1 M2 h2 M3 h3 M4 h4) Q := by
  rw [cc0__tc_body_eq_skeleton]
  unfold cc0__tc_body_skel
  rw [k0_part1_eq_skeleton, k0_part2_eq_skeleton]
  unfold k0_part1_skel k0_part2_skel
  simp only [dif_pos hc1, dif_neg hc2]
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _; isplitr; swap; · iexact H4
  ipureintro
  refine (read_store M4 _ hz2 _ _).trans ?_
  sl_unfold_words
  have e0 := read_load M0 f0 hz3 inb_S1x1x128_S1x1x128_0_0_0
  have e1 := read_load M1 f1 hz3 inb_S1x1x128_S1x1x128_0_0_0
  have e2 := read_load M2 f2 hz3 inb_S1x128x2048_S1x128x2048_0_0_0
  unfold partTile
  rw [← e0, ← e1, ← e2]
  rfl

/-- At a later point: what the buffer held, plus the tile. -/
theorem later_run (c : Dev nD) (i : grid0.Coords) (hc1 : ¬k0_cond1 i = 1#1) (hc2 : k0_cond2 i = 1#1)
    (M0 : Memref sig .tc .vmem S1x1x128 .i32) (h0 : M0.IsWhole) (M1 : Memref sig .tc .vmem S1x1x128 .i32) (h1 : M1.IsWhole)
    (M2 : Memref sig .tc .vmem S1x128x2048 .i32) (h2 : M2.IsWhole) (M3 : Memref sig .tc .vmem S4x1x128x2048 .f32) (h3 : M3.IsWhole) (M4 : Memref sig .tc .vmem S8x128 .f32) (h4 : M4.IsWhole)
    (f0 : Bf (F := F) c M0) (f1 : Bf (F := F) c M1) (f2 : Bf (F := F) c M2) (f3 : Bf (F := F) c M3) (f4 : Bf (F := F) c M4) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ (∃ g : Bf (F := F) c M4, ⌜M4.view.read (Elt F) g
                = addf (M4.view.read (Elt F) f4 : Vec F S8x128 .f32) (partTile (M0.view.read (Elt F) f0) (M1.view.read (Elt F) f1) (M2.view.read (Elt F) f2) (M3.view.read (Elt F) f3))⌝ ∗ pt c M4 g)) -∗ Q ⟨⟩))
      ⊢ wp frame (wpE (defs₀ (F := F)) 𝒱₀ (c : Thread nD τ) none) Set.univ (cc0__tc_body i M0 h0 M1 h1 M2 h2 M3 h3 M4 h4) Q := by
  rw [cc0__tc_body_eq_skeleton]
  unfold cc0__tc_body_skel
  rw [k0_part1_eq_skeleton, k0_part2_eq_skeleton]
  unfold k0_part1_skel k0_part2_skel
  simp only [dif_neg hc1, dif_pos hc2]
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _; isplitr; swap; · iexact H4
  ipureintro
  refine (read_store M4 _ hz2 _ _).trans ?_
  sl_unfold_words
  have e0 := read_load M0 f0 hz3 inb_S1x1x128_S1x1x128_0_0_0
  have e1 := read_load M1 f1 hz3 inb_S1x1x128_S1x1x128_0_0_0
  have e2 := read_load M2 f2 hz3 inb_S1x128x2048_S1x128x2048_0_0_0
  have e4 := read_load M4 f4 hz2 inb_S8x128_S8x128_0_0
  unfold partTile
  rw [← e0, ← e1, ← e2, ← e4]
  unfold k0_pay2
  rw [shapeCast_self]
  rfl

end Cert.Proof

end
-- ==== Proof.Regions.lean ====
/-
  The two TensorCore calls as regions of @main: each one's proof data at the contents its arrays hold when it is entered,
  the body obligation, and the region over the thread state "every array at a valuation".
-/
module

public import proofs.«01_k».proof.Proof.Blocks
public import Idealize.ShloMosaic.Lib.Pipeline.RegionsLoop
public import Idealize.ShloMosaic.Lib.Pipeline.Covers
public import Idealize.ShloMosaic.Lib.Pointwise.Index

@[expose] public section

noncomputable section

namespace Cert.Proof

open Cert.KernelIdeal Cert.KernelIdeal.Gen

open Idealize.ShloMosaic Idealize.ShloMosaic.TcCoe
open Idealize.ShloMosaic.SparseCore.Cfg (HIx)
open Idealize.ShloMosaic.SparseCore (T)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.Pipeline (Dat Cfg Window BodyObligation)

variable {F : FTy → Type} [FloatOps F] [∀ e, Nonempty (Elt F e)]

local notation "𝕄" => MM F

/-- Every array of the program at a valuation, per device. -/
abbrev Vals (F : FTy → Type) : Type := (c : Dev nD) → (b : Ref sig .tc) → Buf (Elt F) ((c : Thread nD τ).loc b)

variable (V : Vals F)

/-! ## What the staging buffers hold -/

/-- The value, index, sign and attention blocks at point `t` of the first call, read off the arrays, -/
def blk0_0 (c : Dev nD) (t : Fin cfg0.N) : Vec F S1x1x128 .i32 := ((cfg0.win 0).blk t).view.read (Elt F) (V c (Pipeline.arrRef spec0 0))
def blk0_1 (c : Dev nD) (t : Fin cfg0.N) : Vec F S1x1x128 .i32 := ((cfg0.win 1).blk t).view.read (Elt F) (V c (Pipeline.arrRef spec0 1))
def blk0_2 (c : Dev nD) (t : Fin cfg0.N) : Vec F S1x128x2048 .i32 := ((cfg0.win 2).blk t).view.read (Elt F) (V c (Pipeline.arrRef spec0 2))
def blk0_3 (c : Dev nD) (t : Fin cfg0.N) : Vec F S4x1x128x2048 .f32 := ((cfg0.win 3).blk t).view.read (Elt F) (V c (Pipeline.arrRef spec0 3))
/-- and the value, index and sign blocks of the second. -/
def blk1_0 (c : Dev nD) (t : Fin cfg1.N) : Vec F S1x1x128 .i32 := ((cfg1.win 0).blk t).view.read (Elt F) (V c (Pipeline.arrRef spec1 0))
def blk1_1 (c : Dev nD) (t : Fin cfg1.N) : Vec F S1x1x128 .i32 := ((cfg1.win 1).blk t).view.read (Elt F) (V c (Pipeline.arrRef spec1 1))
def blk1_2 (c : Dev nD) (t : Fin cfg1.N) : Vec F S1x128x2048 .i32 := ((cfg1.win 2).blk t).view.read (Elt F) (V c (Pipeline.arrRef spec1 2))

/-- The first call's tile at point `t`, and the sum of the tiles of points `0 … n`. -/
def tileAt (c : Dev nD) (t : Fin cfg0.N) : Vec F S8x128 .f32 := partTile (blk0_0 V c t) (blk0_1 V c t) (blk0_2 V c t) (blk0_3 V c t)
def chain (c : Dev nD) : (n : ℕ) → n < cfg0.N → Vec F S8x128 .f32
  | 0, h => tileAt V c ⟨0, h⟩
  | n + 1, h => addf (chain c n (Nat.lt_of_succ_lt h)) (tileAt V c ⟨n + 1, h⟩)

/-- The pairs the TensorCore's waits may have recorded before the SparseCore call. -/
def early (c : Dev nD) : Set (SemLoc sig × HIx 1) := {p | (K (F := F)).lev (T c, p.1) p.2 ≤ 8 * SparseCore.Cfg.Blocks.fst 1 1 0}

def dat0 (c : Dev nD) : Dat τ (Elt F) (HIx 1) ℕ UU ℕ cfg0 c where
  A w := V c (Pipeline.arrRef spec0 w)
  after w t := match w with
    | ⟨0, _⟩ => blk0_0 V c t
    | ⟨1, _⟩ => blk0_1 V c t
    | ⟨2, _⟩ => blk0_2 V c t
    | ⟨3, _⟩ => blk0_3 V c t
    | ⟨4, _⟩ => chain V c t.val t.isLt
  Φ _ := Pipeline.scopedRest spec0 c
  q _ := fullShare
  owed _ := (K (F := F)).Otc c 0
  recorded _ := early (F := F) c

def dat1 (c : Dev nD) : Dat τ (Elt F) (HIx 1) ℕ UU ℕ cfg1 c where
  A w := V c (Pipeline.arrRef spec1 w)
  after w t := match w with
    | ⟨0, _⟩ => blk1_0 V c t
    | ⟨1, _⟩ => blk1_1 V c t
    | ⟨2, _⟩ => blk1_2 V c t
    | ⟨3, _⟩ => maskBlk (blk1_0 V c t)
    | ⟨4, _⟩ => signBlk (blk1_1 V c t) (blk1_2 V c t)
  Φ _ := Pipeline.scopedRest spec1 c
  q _ := fullShare
  owed _ := (K (F := F)).Otc c 0
  recorded _ := early (F := F) c

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

/-! ## The body obligations -/

/-- The first point resets the tile, every other adds to it. -/
theorem conds : ∀ t : Fin grid0.N, (k0_cond1 (grid0.coords t) = 1#1 ↔ t.val = 0) ∧ (k0_cond2 (grid0.coords t) = 1#1 ↔ t.val ≠ 0) := by
  decide +kernel

theorem live : ∀ i : cfg0.grid.Coords, cfg0.idle 4 i = false := by
  intro i; obtain ⟨t, rfl⟩ := grid0.coords_surjective i
  revert t; decide +kernel

theorem before0_later (c : Dev nD) (t : Fin cfg0.N) (ht : t.val ≠ 0) (d : (cfg0.win 4).block.Idx → Elt F (cfg0.win 4).elt) :
    (dat0 V c).before 4 t d = chain V c (t.val - 1) (Nat.lt_of_le_of_lt (Nat.sub_le _ _) t.isLt) :=
  (dat0 V c).before_out_kept 4 rfl t ht
    (by rw [Bool.eq_false_iff]; intro h; have := (flush0_4 _).mp h; have h14 : t.val < 14 := lt_of_lt_of_eq t.isLt N_0; dsimp only at this; omega)
    live (fun _ _ => rfl) d

theorem body_obligation1 (c : Dev nD) : BodyObligation (dat1 V c) (defs₀ (F := F)) 𝒱₀ none Set.univ := fun t => by
  rw [bigSep_W1, bigSep_W1]
  dsimp only
  rw [show (dat1 V c).Φ t.castSucc = (dat1 V c).Φ t.succ from rfl, show (dat1 V c).owesAt none t.succ = (dat1 V c).owesAt none t.castSucc from rfl]
  simp only [owns_read c (stage1_0 (cfg1.slots t 0)) (hstage1_0 _), owns_read c (stage1_1 (cfg1.slots t 1)) (hstage1_1 _), owns_read c (stage1_2 (cfg1.slots t 2)) (hstage1_2 _),
    owns_read c (stage1_3 (cfg1.slots t 3)) (hstage1_3 _), owns_read c (stage1_4 (cfg1.slots t 4)) (hstage1_4 _)]
  iintro ⟨HΦ, Howes, ⟨%d0, %f0, %e0, H0⟩, ⟨%d1, %f1, %e1, H1⟩, ⟨%d2, %f2, %e2, H2⟩, ⟨%d3, %f3, -, H3⟩, ⟨%d4, %f4, -, H4⟩⟩
  rw [show (dat1 V c).before 0 t d0 = blk1_0 V c t from (dat1 V c).before_fetched 0 t (fetch1_0 t) _] at e0
  rw [show (dat1 V c).before 1 t d1 = blk1_1 V c t from (dat1 V c).before_fetched 1 t (fetch1_1 t) _] at e1
  rw [show (dat1 V c).before 2 t d2 = blk1_2 V c t from (dat1 V c).before_fetched 2 t (fetch1_2 t) _] at e2
  iapply (prep_run c (grid1.coords t) (stage1_0 (cfg1.slots t 0)) (hstage1_0 _) (stage1_1 (cfg1.slots t 1)) (hstage1_1 _) (stage1_2 (cfg1.slots t 2)) (hstage1_2 _)
    (stage1_3 (cfg1.slots t 3)) (hstage1_3 _) (stage1_4 (cfg1.slots t 4)) (hstage1_4 _) f0 f1 f2 f3 f4)
  isplitl [H0]; · iexact H0
  isplitl [H1]; · iexact H1
  isplitl [H2]; · iexact H2
  isplitl [H3]; · iexact H3
  isplitl [H4]; · iexact H4
  iintro ⟨H0, H1, H2, ⟨%g3, %h3, H3⟩, ⟨%g4, %h4, H4⟩⟩
  rw [e0] at h3; rw [e1, e2] at h4
  isplitl [HΦ]; · iexact HΦ
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists g3; isplitr; swap; (· iexact H3); ipureintro; exact h3
  iexists g4; isplitr; swap; (· iexact H4); ipureintro; exact h4

/-- The first call's point, run from what its five buffers read: the tile of the point, added to what the last one held
    unless the point is the first. -/
theorem point_run (c : Dev nD) (t : Fin cfg0.N) (M0 : Memref sig .tc .vmem S1x1x128 .i32) (h0 : M0.IsWhole) (M1 : Memref sig .tc .vmem S1x1x128 .i32) (h1 : M1.IsWhole)
    (M2 : Memref sig .tc .vmem S1x128x2048 .i32) (h2 : M2.IsWhole) (M3 : Memref sig .tc .vmem S4x1x128x2048 .f32) (h3 : M3.IsWhole) (M4 : Memref sig .tc .vmem S8x128 .f32) (h4 : M4.IsWhole)
    (f0 : Bf (F := F) c M0) (f1 : Bf (F := F) c M1) (f2 : Bf (F := F) c M2) (f3 : Bf (F := F) c M3) (f4 : Bf (F := F) c M4) (Q : PUnit → sProp 𝕄)
    (e0 : M0.view.read (Elt F) f0 = blk0_0 V c t) (e1 : M1.view.read (Elt F) f1 = blk0_1 V c t) (e2 : M2.view.read (Elt F) f2 = blk0_2 V c t) (e3 : M3.view.read (Elt F) f3 = blk0_3 V c t)
    (e4 : ∀ ht : t.val ≠ 0, M4.view.read (Elt F) f4 = chain V c (t.val - 1) (Nat.lt_of_le_of_lt (Nat.sub_le _ _) t.isLt)) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ (∃ g : Bf (F := F) c M4, ⌜M4.view.read (Elt F) g = chain V c t.val t.isLt⌝ ∗ pt c M4 g)) -∗ Q ⟨⟩))
      ⊢ wp frame (wpE (defs₀ (F := F)) 𝒱₀ (c : Thread nD τ) none) Set.univ (cc0__tc_body (grid0.coords t) M0 h0 M1 h1 M2 h2 M3 h3 M4 h4) Q := by
  by_cases ht : t.val = 0
  · refine BI.Entails.trans ?_ (first_run c (grid0.coords t) ((conds t).1.mpr ht) (fun h => (conds t).2.mp h ht) M0 h0 M1 h1 M2 h2 M3 h3 M4 h4 f0 f1 f2 f3 f4 Q)
    rw [e0, e1, e2, e3, show chain V c t.val t.isLt = partTile (blk0_0 V c t) (blk0_1 V c t) (blk0_2 V c t) (blk0_3 V c t) from by
      obtain ⟨n, hn⟩ := t; obtain rfl : n = 0 := ht; rfl]
    exact BI.Entails.refl _
  · refine BI.Entails.trans ?_ (later_run c (grid0.coords t) (fun h => ht ((conds t).1.mp h)) ((conds t).2.mpr ht) M0 h0 M1 h1 M2 h2 M3 h3 M4 h4 f0 f1 f2 f3 f4 Q)
    rw [e0, e1, e2, e3, e4 ht, show chain V c t.val t.isLt = addf (chain V c (t.val - 1) (Nat.lt_of_le_of_lt (Nat.sub_le _ _) t.isLt))
        (partTile (blk0_0 V c t) (blk0_1 V c t) (blk0_2 V c t) (blk0_3 V c t)) from by
      obtain ⟨n, hn⟩ := t
      obtain ⟨k, rfl⟩ : ∃ k, n = k + 1 := ⟨n - 1, by dsimp only at ht; omega⟩
      rfl]
    exact BI.Entails.refl _

theorem body_obligation0 (c : Dev nD) : BodyObligation (dat0 V c) (defs₀ (F := F)) 𝒱₀ none Set.univ := fun t => by
  rw [bigSep_W0, bigSep_W0]
  rw [show cfg0.idle 4 (cfg0.grid.coords t) = false from live _]
  dsimp only
  rw [show (dat0 V c).Φ t.castSucc = (dat0 V c).Φ t.succ from rfl, show (dat0 V c).owesAt none t.succ = (dat0 V c).owesAt none t.castSucc from rfl]
  simp only [owns_read c (stage0_0 (cfg0.slots t 0)) (hstage0_0 _), owns_read c (stage0_1 (cfg0.slots t 1)) (hstage0_1 _), owns_read c (stage0_2 (cfg0.slots t 2)) (hstage0_2 _),
    owns_read c (stage0_3 (cfg0.slots t 3)) (hstage0_3 _), owns_read c (stage0_4 (cfg0.slots t 4)) (hstage0_4 _)]
  iintro ⟨HΦ, Howes, ⟨%d0, %f0, %e0, H0⟩, ⟨%d1, %f1, %e1, H1⟩, ⟨%d2, %f2, %e2, H2⟩, ⟨%d3, %f3, %e3, H3⟩, ⟨%d4, %f4, %e4, H4⟩⟩
  rw [show (dat0 V c).before 0 t d0 = blk0_0 V c t from (dat0 V c).before_fetched 0 t (fetch0_0 t) _] at e0
  rw [show (dat0 V c).before 1 t d1 = blk0_1 V c t from (dat0 V c).before_fetched 1 t (fetch0_1 t) _] at e1
  rw [show (dat0 V c).before 2 t d2 = blk0_2 V c t from (dat0 V c).before_fetched 2 t (fetch0_2 t) _] at e2
  rw [show (dat0 V c).before 3 t d3 = blk0_3 V c t from (dat0 V c).before_fetched 3 t (fetch0_3 t) _] at e3
  iapply (point_run V c t (stage0_0 (cfg0.slots t 0)) (hstage0_0 _) (stage0_1 (cfg0.slots t 1)) (hstage0_1 _) (stage0_2 (cfg0.slots t 2)) (hstage0_2 _)
    (stage0_3 (cfg0.slots t 3)) (hstage0_3 _) (stage0_4 (cfg0.slots t 4)) (hstage0_4 _) f0 f1 f2 f3 f4 _ e0 e1 e2 e3 (fun ht => e4.trans (before0_later V c t ht d4)))
  isplitl [H0]; · iexact H0
  isplitl [H1]; · iexact H1
  isplitl [H2]; · iexact H2
  isplitl [H3]; · iexact H3
  isplitl [H4]; · iexact H4
  iintro ⟨H0, H1, H2, H3, ⟨%g4, %h4, H4⟩⟩
  isplitl [HΦ]; · iexact HΦ
  isplitl [Howes]; · iexact Howes
  isplitl [H0]; · iexists f0; isplitr; swap; (· iexact H0); ipureintro; exact e0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  iexists g4; isplitr; swap; (· iexact H4); ipureintro; exact h4

/-! ## What the arrays hold at the end -/

/-- The first call's result: the sum of the tiles of all its points. -/
def partial_ (c : Dev nD) : Vec F S8x128 .f32 := chain V c 13 (lt_of_lt_of_eq (by decide) N_0.symm)
/-- The second call's results: per batch, the mask of its values and the signs of its rows. -/
def masks (c : Dev nD) : Vec F S2x1x128 .f32 := fun y => maskBlk (blk1_0 V c ⟨(y 0).val, lt_of_lt_of_eq (y 0).isLt N_1.symm⟩) (ix3 0 0 (y 2))
def signs (c : Dev nD) : Vec F S2x128x2048 .f32 := fun y => signBlk (blk1_1 V c ⟨(y 0).val, lt_of_lt_of_eq (y 0).isLt N_1.symm⟩)
  (blk1_2 V c ⟨(y 0).val, lt_of_lt_of_eq (y 0).isLt N_1.symm⟩) (ix3 0 (y 1) (y 2))

theorem final2 (c : Dev nD) : (dat0 V c).arrAt 4 cfg0.N = partial_ V c :=
  (dat0 V c).arrAt_eq_of_cover 4 (partial_ V c) (fun t hf => by
    have h13 : t.val = 13 := by have := (flush0_4 t).mp hf; have : t.val < 14 := lt_of_lt_of_eq t.isLt N_0; omega
    obtain rfl : t = t0_13 := Fin.ext h13
    show (cfg0.win 4).cut (grid0.coords t0_13) (chain V c 13 _) = _
    have hz' : (fun a => win0_4.index t0_13 a * main_v2.ty.shape.size a) = fun _ => 0 := funext fun a => by fin_cases a <;> decide +kernel
    exact (Memref.read_access_unit_zero (Elt F) main_v2 hz' (fun a => by rw [congrFun hz' a]; simp) (partial_ V c)).symm)
  fun i => ⟨t0_13, (flush0_4 t0_13).mpr rfl, by
    show i ∈ ((View.whole main_v2).slice (win0_4.rect t0_13)).set
    rw [View.set_slice_whole, Rect.mem_set_unit]
    have e : ∀ a, win0_4.index t0_13 a * win0_4.size a = 0 ∧ win0_4.xsize (grid0.coords t0_13) a = S8x128.size a := by decide +kernel
    intro a
    show win0_4.index t0_13 a * win0_4.size a ≤ (i a : Nat) ∧ (i a : Nat) < win0_4.index t0_13 a * win0_4.size a + win0_4.xsize (grid0.coords t0_13) a
    rw [(e a).1, (e a).2, Nat.zero_add]
    exact ⟨Nat.zero_le _, (i a).isLt⟩⟩

theorem geom3 : ∀ t : Fin grid1.N, (win1_3.index t 0 * win1_3.size 0 = t.val ∧ win1_3.xsize (grid1.coords t) 0 = 1)
    ∧ (win1_3.index t 1 * win1_3.size 1 = 0 ∧ win1_3.xsize (grid1.coords t) 1 = 1) ∧ (win1_3.index t 2 * win1_3.size 2 = 0 ∧ win1_3.xsize (grid1.coords t) 2 = 128) := by
  decide +kernel
theorem geom4 : ∀ t : Fin grid1.N, (win1_4.index t 0 * win1_4.size 0 = t.val ∧ win1_4.xsize (grid1.coords t) 0 = 1)
    ∧ (win1_4.index t 1 * win1_4.size 1 = 0 ∧ win1_4.xsize (grid1.coords t) 1 = 128) ∧ (win1_4.index t 2 * win1_4.size 2 = 0 ∧ win1_4.xsize (grid1.coords t) 2 = 2048) := by
  decide +kernel

theorem final7_0 (c : Dev nD) : (dat1 V c).arrAt 3 cfg1.N = masks V c :=
  (dat1 V c).arrAt_eq_of_cover 3 (masks V c) (fun t _ => by
    show (cfg1.win 3).cut (grid1.coords t) (maskBlk (blk1_0 V c t)) = _
    funext j
    have g := geom3 t
    have j0 : (j 0 : Nat) < 1 := (j 0).isLt
    have j1 : (j 1 : Nat) < 1 := (j 1).isLt
    have hj : (j : S1x1x128.Idx) = ix3 0 0 (j 2) := by
      funext a; fin_cases a; exact Fin.ext (by show (j 0 : Nat) = 0; omega); exact Fin.ext (by show (j 1 : Nat) = 0; omega); rfl
    show maskBlk (blk1_0 V c t) j = masks V c (((cfg1.win 3).blk t).view.emb j)
    have e0 : ((((cfg1.win 3).blk t).view.emb j) 0).val = t.val := by
      show win1_3.index t 0 * win1_3.size 0 + 1 * (j 0).val = _; rw [g.1.1]; omega
    have e2 : (((cfg1.win 3).blk t).view.emb j) 2 = j 2 := Fin.ext (by
      show win1_3.index t 2 * win1_3.size 2 + 1 * (j 2).val = _; rw [g.2.2.1]; omega)
    unfold masks
    rw [e2, show (⟨_, lt_of_lt_of_eq ((((cfg1.win 3).blk t).view.emb j) 0).isLt N_1.symm⟩ : Fin cfg1.N) = t from Fin.ext e0]
    exact congrArg _ hj)
  fun i => ⟨⟨(i 0).val, lt_of_lt_of_eq (i 0).isLt N_1.symm⟩, flush1_3 _, by
    show i ∈ ((View.whole main_v7_0).slice (win1_3.rect (⟨(i 0).val, lt_of_lt_of_eq (i 0).isLt N_1.symm⟩ : Fin grid1.N))).set
    rw [View.set_slice_whole, Rect.mem_set_unit]
    have g := geom3 ⟨(i 0).val, lt_of_lt_of_eq (i 0).isLt N_1.symm⟩
    have i1 : (i 1 : Nat) < 1 := (i 1).isLt
    have i2 : (i 2 : Nat) < 128 := (i 2).isLt
    intro a
    match a with
    | ⟨0, _⟩ => show win1_3.index _ 0 * win1_3.size 0 ≤ (i 0 : Nat) ∧ (i 0 : Nat) < win1_3.index _ 0 * win1_3.size 0 + win1_3.xsize (grid1.coords _) 0
                rw [g.1.1, g.1.2]; dsimp only; omega
    | ⟨1, _⟩ => show win1_3.index _ 1 * win1_3.size 1 ≤ (i 1 : Nat) ∧ (i 1 : Nat) < win1_3.index _ 1 * win1_3.size 1 + win1_3.xsize (grid1.coords _) 1
                rw [g.2.1.1, g.2.1.2]; omega
    | ⟨2, _⟩ => show win1_3.index _ 2 * win1_3.size 2 ≤ (i 2 : Nat) ∧ (i 2 : Nat) < win1_3.index _ 2 * win1_3.size 2 + win1_3.xsize (grid1.coords _) 2
                rw [g.2.2.1, g.2.2.2]; omega⟩

theorem final7_1 (c : Dev nD) : (dat1 V c).arrAt 4 cfg1.N = signs V c :=
  (dat1 V c).arrAt_eq_of_cover 4 (signs V c) (fun t _ => by
    show (cfg1.win 4).cut (grid1.coords t) (signBlk (blk1_1 V c t) (blk1_2 V c t)) = _
    funext j
    have g := geom4 t
    have j0 : (j 0 : Nat) < 1 := (j 0).isLt
    have hj : (j : S1x128x2048.Idx) = ix3 0 (j 1) (j 2) := by
      funext a; fin_cases a; exact Fin.ext (by show (j 0 : Nat) = 0; omega); rfl; rfl
    show signBlk (blk1_1 V c t) (blk1_2 V c t) j = signs V c (((cfg1.win 4).blk t).view.emb j)
    have e0 : ((((cfg1.win 4).blk t).view.emb j) 0).val = t.val := by
      show win1_4.index t 0 * win1_4.size 0 + 1 * (j 0).val = _; rw [g.1.1]; omega
    have e1 : (((cfg1.win 4).blk t).view.emb j) 1 = j 1 := Fin.ext (by
      show win1_4.index t 1 * win1_4.size 1 + 1 * (j 1).val = _; rw [g.2.1.1]; omega)
    have e2 : (((cfg1.win 4).blk t).view.emb j) 2 = j 2 := Fin.ext (by
      show win1_4.index t 2 * win1_4.size 2 + 1 * (j 2).val = _; rw [g.2.2.1]; omega)
    unfold signs
    rw [e1, e2, show (⟨_, lt_of_lt_of_eq ((((cfg1.win 4).blk t).view.emb j) 0).isLt N_1.symm⟩ : Fin cfg1.N) = t from Fin.ext e0]
    exact congrArg _ hj)
  fun i => ⟨⟨(i 0).val, lt_of_lt_of_eq (i 0).isLt N_1.symm⟩, flush1_4 _, by
    show i ∈ ((View.whole main_v7_1).slice (win1_4.rect (⟨(i 0).val, lt_of_lt_of_eq (i 0).isLt N_1.symm⟩ : Fin grid1.N))).set
    rw [View.set_slice_whole, Rect.mem_set_unit]
    have g := geom4 ⟨(i 0).val, lt_of_lt_of_eq (i 0).isLt N_1.symm⟩
    have i1 : (i 1 : Nat) < 128 := (i 1).isLt
    have i2 : (i 2 : Nat) < 2048 := (i 2).isLt
    intro a
    match a with
    | ⟨0, _⟩ => show win1_4.index _ 0 * win1_4.size 0 ≤ (i 0 : Nat) ∧ (i 0 : Nat) < win1_4.index _ 0 * win1_4.size 0 + win1_4.xsize (grid1.coords _) 0
                rw [g.1.1, g.1.2]; dsimp only; omega
    | ⟨1, _⟩ => show win1_4.index _ 1 * win1_4.size 1 ≤ (i 1 : Nat) ∧ (i 1 : Nat) < win1_4.index _ 1 * win1_4.size 1 + win1_4.xsize (grid1.coords _) 1
                rw [g.2.1.1, g.2.1.2]; omega
    | ⟨2, _⟩ => show win1_4.index _ 2 * win1_4.size 2 ≤ (i 2 : Nat) ∧ (i 2 : Nat) < win1_4.index _ 2 * win1_4.size 2 + win1_4.xsize (grid1.coords _) 2
                rw [g.2.2.1, g.2.2.2]; omega⟩

/-! ## The regions -/

/-- Before the SparseCore call the TensorCore owes nothing at its own index. -/
theorem Otc_none (c : Dev nD) (g : GSem nD τ sig) : (K (F := F)).Otc c 0 g none = 0 := by
  by_contra h
  have := (K (F := F)).lev_of_Otc_pos (N := 1) (Nat.pos_of_ne_zero h)
  rw [SparseCore.Cfg.lev_none] at this; omega

/-- What a region takes and leaves beside the arrays: the TensorCore's debts, its recorded waits bounded. -/
def debts (c : Dev nD) : sProp 𝕄 :=
  iprop(∃ W, ⌜(K (F := F)).WBelow (T c) W (8 * SparseCore.Cfg.Blocks.fst 1 1 0)⌝ ∗ owes (T c) ((K (F := F)).Otc c 0) W)

variable (Vp : Vals F)

set_option backward.isDefEq.respectTransparency.types false in
/-- Either call, from every array at `V` to every array at `Vp`: the call's arrays at what its last point leaves (`hF`), the
    others kept (`hrest`). -/
def reg (p : Fin 2) (lf : Pipeline.LaunchFacts (nD := nD) (τ := τ) cfgs p)
    (hbody : ∀ c, BodyObligation (pdats V p c) (defs₀ (F := F)) 𝒱₀ none Set.univ)
    (hA : ∀ c w, (pdats V p c).A w = V c (Pipeline.arrRef (cfgs p).spec w)) (hq : ∀ c w, (pdats V p c).q w = fullShare)
    (hΦ : ∀ c t, (pdats V p c).Φ t = Pipeline.scopedRest (cfgs p).spec c)
    (hO : ∀ c t, (pdats V p c).owed t = (K (F := F)).Otc c 0) (hrec : ∀ c t, (pdats V p c).recorded t = early (F := F) c)
    (hF : ∀ c w, (pdats V p c).arrAt w (cfgs p).N = Vp c (Pipeline.arrRef (cfgs p).spec w))
    (hrest : ∀ c (b : Ref sig .tc), b ∉ Finset.univ.image (Pipeline.arrRef (cfgs p).spec) → Vp c b = V c b) :
    Pipeline.RegionSeg (pcfgs (F := F)) adm (pdats V) none defs₀ 𝒱₀ (K (F := F)).L (K (F := F)).lev p where
  win := lf.win.to₀
  block_pos := lf.block_pos
  stage_whole := lf.stage_whole
  K := PEmpty
  osem k := k.elim
  ho := Pipeline.OwnSemFacts.none _
  hbody c := (hbody c).loose
  hwaits c := Pipeline.cellsWaits_intro _ _ _ _ c fun w s t => by rw [hO]; exact (K (F := F)).mayWait_none _ (Otc_none c)
  pre c := iprop(unscopedBufs c (V c) ∗ debts c)
  post c := iprop(unscopedBufs c (Vp c) ∗ debts c)
  X _ := BI.emp
  Y _ := BI.emp
  Z c := Pipeline.unscopedRest (Ix := HIx 1) (Name := ℕ) (U := UU) (Lvl := ℕ) (cfgs p).spec c (V c)
  hentry c := by
    rw [Pipeline.ownSems0_none]
    have hsplit := Pipeline.arrays_of_unscopedBufs (p := p) (pcfgs (F := F)) adm (pdats V) lf.win lf.arr_whole c
      ((pdats V p c).share_full (hq c)) (V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin debts
      rw [hO]
      icases HO with ⟨%W, %hW, HO⟩; iexists W; isplitr; swap; (· iexact HO); ipureintro
      exact fun p hp => Or.inl (by rw [hrec]; exact hW p hp)
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) lf.win lf.arr_whole c
      (pdats V) ((pdats V p c).share_full (hq c)) (V c) (Vp c) ((pdats V p c).arrAt · (cfgs p).N) (hF c) (hrest c)
    iintro ⟨Ha, HO, -, Hrest⟩
    imodintro
    isplitl [Ha Hrest]
    · iapply hjoin; isplitl [Ha] <;> iassumption
    unfold Pipeline.Dat.owesAt Pipeline.owesWithin debts
    rw [hO]
    icases HO with ⟨%W, %hW, HO⟩; iexists W; isplitr; swap; (· iexact HO); ipureintro
    intro p hp
    rcases hW hp with h | ⟨w, s, h⟩
    · rw [hrec] at h; exact h
    · rw [show p.2 = none from congrArg Prod.snd h, SparseCore.Cfg.lev_none]; exact Nat.zero_le _

/-- The first call: its result at the sum of the tiles, every other array kept; -/
def reg0 (h2 : ∀ c, Vp c main_v2 = partial_ V c) (hne : ∀ c (b : Ref sig .tc), b ≠ main_v2 → Vp c b = V c b) :
    Pipeline.RegionSeg (pcfgs (F := F)) adm (pdats V) none defs₀ 𝒱₀ (K (F := F)).L (K (F := F)).lev 0 :=
  reg V Vp 0 launch0 (body_obligation0 V) (fun _ _ => rfl) (fun _ _ => rfl) (fun _ _ => rfl) (fun _ _ => rfl) (fun _ _ => rfl)
    (fun c w => by
      match w with
      | ⟨0, _⟩ => exact ((dat0 V c).arrAt_in 0 rfl _).trans (hne c (Pipeline.arrRef spec0 0) (by decide)).symm
      | ⟨1, _⟩ => exact ((dat0 V c).arrAt_in 1 rfl _).trans (hne c (Pipeline.arrRef spec0 1) (by decide)).symm
      | ⟨2, _⟩ => exact ((dat0 V c).arrAt_in 2 rfl _).trans (hne c (Pipeline.arrRef spec0 2) (by decide)).symm
      | ⟨3, _⟩ => exact ((dat0 V c).arrAt_in 3 rfl _).trans (hne c (Pipeline.arrRef spec0 3) (by decide)).symm
      | ⟨4, _⟩ => exact (final2 V c).trans (h2 c).symm)
    (fun c b hb => hne c b fun h => hb (h ▸ Finset.mem_image.mpr ⟨(4 : Fin 5), Finset.mem_univ _, rfl⟩))

/-- and the second: its results at the masks and the signs. -/
def reg1 (h0 : ∀ c, Vp c main_v7_0 = masks V c) (h1 : ∀ c, Vp c main_v7_1 = signs V c)
    (hne : ∀ c (b : Ref sig .tc), b ≠ main_v7_0 → b ≠ main_v7_1 → Vp c b = V c b) :
    Pipeline.RegionSeg (pcfgs (F := F)) adm (pdats V) none defs₀ 𝒱₀ (K (F := F)).L (K (F := F)).lev 1 :=
  reg V Vp 1 launch1 (body_obligation1 V) (fun _ _ => rfl) (fun _ _ => rfl) (fun _ _ => rfl) (fun _ _ => rfl) (fun _ _ => rfl)
    (fun c w => by
      match w with
      | ⟨0, _⟩ => exact ((dat1 V c).arrAt_in 0 rfl _).trans (hne c (Pipeline.arrRef spec1 0) (by decide) (by decide)).symm
      | ⟨1, _⟩ => exact ((dat1 V c).arrAt_in 1 rfl _).trans (hne c (Pipeline.arrRef spec1 1) (by decide) (by decide)).symm
      | ⟨2, _⟩ => exact ((dat1 V c).arrAt_in 2 rfl _).trans (hne c (Pipeline.arrRef spec1 2) (by decide) (by decide)).symm
      | ⟨3, _⟩ => exact (final7_0 V c).trans (h0 c).symm
      | ⟨4, _⟩ => exact (final7_1 V c).trans (h1 c).symm)
    (fun c b hb => hne c b (fun h => hb (h ▸ Finset.mem_image.mpr ⟨(3 : Fin 5), Finset.mem_univ _, rfl⟩))
      fun h => hb (h ▸ Finset.mem_image.mpr ⟨(4 : Fin 5), Finset.mem_univ _, rfl⟩))

end Cert.Proof

end
-- ==== Proof.Loop.lean ====
module

public import proofs.«01_k».proof.Proof.Setup
public import Idealize.ShloMosaic.Lib.Pointwise.Index
public import Idealize.ShloMosaic.Lib.WritesUnit
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

abbrev cV (L : grid2.Coords) : Fin τ.nSC := (L 0).castLE hcore2
abbrev jV (L : grid2.Coords) : Fin τ.nSub := (L 1).castLE hsub2

/-! ## The arithmetic of a chunk, a row and a sweep -/

/-- Sixteen consecutive lanes of a flat array, from position `n` on. -/
def lanes {N : ℕ} [NeZero N] (X : (⟨1, ![N]⟩ : Shape).Idx → Elt F .f32) (n : ℕ) : Vec F S16 .f32 :=
  fun x => X (ix1 (Fin.ofNat N (n + (x 0).val)))

/-- A load of sixteen lanes reads the lanes from its offset on. -/
theorem readAt_lanes {κ : Kind} {sp : Space} {N : ℕ} [NeZero N] (A : Memref sig κ sp ⟨1, ![N]⟩ .f32) (off : Fin 1 → ℕ)
    (inb : ∀ a, off a + S16.size a ≤ (⟨1, ![N]⟩ : Shape).size a) {n : ℕ} (hn : off 0 = n) (f) :
    View.readAt (Elt F) A.view (Rect.unit (s := ⟨1, ![N]⟩) off S16.size inb).toLoadRect f = lanes (F := F) (A.view.read (Elt F) f) n := by
  subst hn
  funext x
  refine congrArg (A.view.read (Elt F) f) ?_
  funext a
  match a with
  | ⟨0, _⟩ =>
    have h0 : off 0 + 16 ≤ N := inb 0
    have hx : (x 0).val < 16 := (x 0).isLt
    refine Fin.ext ?_
    show off 0 + 1 * (x 0).val = (off 0 + (x 0).val) % N
    rw [Nat.mod_eq_of_lt (by omega)]; omega

/-- Sixteen partial sums take sixteen more products. -/
def mac (acc : FVec F S16 .f32) (x y : Vec F S16 .f32) : FVec F S16 .f32 :=
  addf acc (mulf (shapeCast S16 x shapeCasts_S16_S16) (shapeCast S16 y shapeCasts_S16_S16))

/-- The four registers of partial sums. -/
abbrev Acc (F : FTy → Type) : Type := FVec F S16 .f32 × FVec F S16 .f32 × FVec F S16 .f32 × FVec F S16 .f32

/-- The four registers after eight more chunks, from position `n` on. -/
def macs (A S : S16384.Idx → Elt F .f32) (n : ℕ) (acc : Acc F) : Acc F :=
  (mac (mac acc.1 (lanes A n) (lanes S n)) (lanes A (n + 64)) (lanes S (n + 64)),
    mac (mac acc.2.1 (lanes A (n + 16)) (lanes S (n + 16))) (lanes A (n + 80)) (lanes S (n + 80)),
    mac (mac acc.2.2.1 (lanes A (n + 32)) (lanes S (n + 32))) (lanes A (n + 96)) (lanes S (n + 96)),
    mac (mac acc.2.2.2 (lanes A (n + 48)) (lanes S (n + 48))) (lanes A (n + 112)) (lanes S (n + 112)))

/-- The sixteen zeros. -/
abbrev zero16 : FVec F S16 .f32 := broadcast S16 (Scalar.ofBits .f32 0x00000000#32)

/-- The four registers after `j` trips of row `k`'s sweep. -/
def rowAcc (A S : S16384.Idx → Elt F .f32) (k : ℕ) : ℕ → Acc F
  | 0 => (zero16, zero16, zero16, zero16)
  | j + 1 => macs A S (2048 * k + 128 * j) (rowAcc A S k j)

/-- Sixteen lanes moved down by `n`, zeros coming in above. -/
def up (v : Vec F S16 .f32) (n : ℕ) : Vec F S16 .f32 :=
  fun x => if h : n + (x 0).val < 16 then v (ix1 ⟨n + (x 0).val, h⟩) else Scalar.ofBits .f32 0x00000000#32

/-- The reduction buffer's upper half is zero. -/
def UpperZero (X : S32.Idx → Elt F .f32) : Prop := ∀ y : S32.Idx, 16 ≤ (y 0).val → X y = Scalar.ofBits .f32 0x00000000#32

/-- A store into the lower half leaves the upper half zero. -/
theorem upperZero_cons {κ : Kind} {sp : Space} (v : View sig κ sp S32 .f32) (f) (inb : ∀ a, (![0] : Fin 1 → ℕ) a + S16.size a ≤ S32.size a)
    (w : Vec F S16 .f32) (Ls : List (View.Piece (Elt F) S32 .f32)) (h : UpperZero (F := F) (v.read (Elt F) (v.writes (Elt F) f Ls))) :
    UpperZero (F := F) (v.read (Elt F) (v.writes (Elt F) f (⟨Rect.unit (s := S32) ![0] S16.size inb, w⟩ :: Ls))) := fun y hy =>
  (View.read_writes_cons_unit_of_not_mem v f inb w Ls y rfl 0 (.inr hy)).trans (h y hy)

/-- A load at `n` after a store of `w` into the lower half is `w` moved down by `n`. -/
theorem readAt_cons {κ : Kind} {sp : Space} (v : View sig κ sp S32 .f32) (f) (inb : ∀ a, (![0] : Fin 1 → ℕ) a + S16.size a ≤ S32.size a)
    (w : Vec F S16 .f32) (Ls : List (View.Piece (Elt F) S32 .f32)) (n : ℕ) (inb' : ∀ a, (![n] : Fin 1 → ℕ) a + S16.size a ≤ S32.size a)
    (h : UpperZero (F := F) (v.read (Elt F) (v.writes (Elt F) f Ls))) :
    View.readAt (Elt F) v (Rect.unit (s := S32) ![n] S16.size inb').toLoadRect (v.writes (Elt F) f (⟨Rect.unit (s := S32) ![0] S16.size inb, w⟩ :: Ls))
      = up (F := F) w n := by
  funext x
  have hx : (((Rect.unit (s := S32) ![n] S16.size inb').toLoadRect.idx x) 0).val = n + (x 0).val := by
    show n + 1 * (x 0).val = n + (x 0).val
    omega
  rw [View.readAt_apply]
  unfold up
  split
  · next hlt =>
    exact View.read_writes_cons_unit_of_mem v f inb w Ls _ (ix1 ⟨n + (x 0).val, hlt⟩) rfl fun a => by
      match a with
      | ⟨0, _⟩ => exact hx.trans (Nat.zero_add _).symm
  · next hge =>
    have hge' : 16 ≤ (((Rect.unit (s := S32) ![n] S16.size inb').toLoadRect.idx x) 0).val := by omega
    exact (View.read_writes_cons_unit_of_not_mem v f inb w Ls _ rfl 0 (.inr hge')).trans (h _ hge')

/-- A row's sixteen partial sums folded by halves, from the four registers: lane zero is their sum. -/
def tree (a : Acc F) : Vec F S16 .f32 :=
  have v0 : FVec F S16 .f32 := addf (addf a.1 a.2.1) (addf a.2.2.1 a.2.2.2)
  have v1 : FVec F S16 .f32 := addf v0 (up v0 8)
  have v2 : FVec F S16 .f32 := addf v1 (up v1 4)
  have v3 : FVec F S16 .f32 := addf v2 (up v2 2)
  addf v3 (up v3 1)

/-- A row's contribution to the accumulator: the hinge of its sum, kept in lane zero, where the row is live. -/
def rowTerm (e : FVec F S16 .f32) (M : S32.Idx → Elt F .f32) (A S : S16384.Idx → Elt F .f32) (k : ℕ) : FVec F S16 .f32 :=
  mulf (mulf (maximumf (addf (tree (rowAcc A S k 16)) (broadcast S16 (Scalar.ofBits .f32 0x3F19999A#32))) zero16) e) (lanes M k)

/-- A slot's filler: the margin for each of its four sign rows, kept in lane zero, where the slot is dead. -/
def fillTerm (e : FVec F S16 .f32) (M : S32.Idx → Elt F .f32) (k : ℕ) : FVec F S16 .f32 :=
  mulf (mulf (broadcast S16 (Scalar.ofBits .f32 0x4019999A#32)) e) (subf (broadcast S16 (Scalar.ofBits .f32 0x3F800000#32)) (lanes M k))

/-- An accumulator after `k` terms. -/
def accTo (term : ℕ → FVec F S16 .f32) (a : FVec F S16 .f32) : ℕ → FVec F S16 .f32
  | 0 => a
  | k + 1 => addf (accTo term a k) (term k)

/-- The printed payload of a row is its term. -/
theorem pay_row (e acc : FVec F S16 .f32) (a : Acc F) (m : Vec F S16 .f32) (u1 u2 u3 u4 : Vec F S16 .f32)
    (h1 : u1 = up (k2_pay35 a.1 a.2.1 a.2.2.1 a.2.2.2) 8)
    (h2 : u2 = up (k2_pay37 a.1 a.2.1 a.2.2.1 a.2.2.2 u1) 4)
    (h3 : u3 = up (k2_pay39 a.1 a.2.1 a.2.2.1 a.2.2.2 u1 u2) 2)
    (h4 : u4 = up (k2_pay41 a.1 a.2.1 a.2.2.1 a.2.2.2 u1 u2 u3) 1) :
    k2_pay42 e acc a.1 a.2.1 a.2.2.1 a.2.2.2 u1 u2 u3 u4 m
      = addf acc (mulf (mulf (maximumf (addf (tree a) (broadcast S16 (Scalar.ofBits .f32 0x3F19999A#32))) zero16) e) m) := by
  subst h1 h2 h3 h4
  simp only [k2_pay42, k2_pay35, k2_pay37, k2_pay39, k2_pay41, k2_pay40, k2_pay38, k2_pay36, k2_pay34, shapeCast_self, tree]

/-- The first sweep's printed payload of a row is its term with the filler. -/
theorem pay_row₁ (e acc : FVec F S16 .f32) (a : Acc F) (M : S32.Idx → Elt F .f32) (k : ℕ) (u1 u2 u3 u4 : Vec F S16 .f32)
    (h1 : u1 = up (k2_pay14 a.1 a.2.1 a.2.2.1 a.2.2.2) 8)
    (h2 : u2 = up (k2_pay16 a.1 a.2.1 a.2.2.1 a.2.2.2 u1) 4)
    (h3 : u3 = up (k2_pay18 a.1 a.2.1 a.2.2.1 a.2.2.2 u1 u2) 2)
    (h4 : u4 = up (k2_pay20 a.1 a.2.1 a.2.2.1 a.2.2.2 u1 u2 u3) 1) :
    k2_pay89 e acc (k2_pay21 (lanes M k)) (k2_pay22 e a.1 a.2.1 a.2.2.1 a.2.2.2 u1 u2 u3 u4 (lanes M k)) (Scalar.ofBits .f32 0x4019999A#32)
      = addf acc (addf (mulf (mulf (maximumf (addf (tree a) (broadcast S16 (Scalar.ofBits .f32 0x3F19999A#32))) zero16) e) (lanes M k)) (fillTerm e M k)) := by
  subst h1 h2 h3 h4
  simp only [k2_pay89, k2_pay22, k2_pay21, k2_pay14, k2_pay16, k2_pay18, k2_pay20, k2_pay13, k2_pay15, k2_pay17, k2_pay19, shapeCast_self, tree, fillTerm]

section Args

variable (d : Dev nD) (L : grid2.Coords)
  (arg2 : Memref sig .scVector .hbm S256 .f32) (harg2 : arg2.IsWhole) (arg3 : Memref sig .scVector .hbm S524288 .f32) (harg3 : arg3.IsWhole)
  (arg4 : Memref sig .scVector .hbm S16777216 .f32) (harg4 : arg4.IsWhole) (arg5 : Memref sig .scVector .hbm S32x16 .f32) (harg5 : arg5.IsWhole)
  (arg6 : Memref sig .scVector .vmem S32 .f32) (harg6 : arg6.IsWhole) (arg7 : Memref sig .scVector .vmem S32 .f32) (harg7 : arg7.IsWhole)
  (arg8 : Memref sig .scVector .vmem S16384 .f32) (harg8 : arg8.IsWhole) (arg9 : Memref sig .scVector .vmem S16384 .f32) (harg9 : arg9.IsWhole)
  (arg10 : Memref sig .scVector .vmem S16384 .f32) (harg10 : arg10.IsWhole) (arg11 : Memref sig .scVector .vmem S16 .f32) (harg11 : arg11.IsWhole)
  (arg12 arg13 arg14 v59_r0 v59_r1 : DmaSems sig S_)

/-- What a row's sweep holds. -/
def inv (fa : Buf (Elt F) (arg10.view.loc (V d (cV L) (jV L)))) (fs : Buf (Elt F) (arg8.view.loc (V d (cV L) (jV L)))) (k : ℕ) (j : ℕ) (acc : Acc F) : sProp 𝕄 :=
  iprop(⌜acc = rowAcc (arg10.view.read (Elt F) fa) (arg8.view.read (Elt F) fs) k j⌝
    ∗ (arg10.view.loc (V d (cV L) (jV L)) ↦[arg10.view.set]{fullShare} fa) ∗ (arg8.view.loc (V d (cV L) (jV L)) ↦[arg8.view.set]{fullShare} fs))

/-- One trip of a row's sweep. -/
theorem inner_step (v26 : FVec F S16 .f32) (z o : BitVec 32) (k : Fin k2_t3_loop.trips) (acc16 : FVec F S16 .f32) (iv : BitVec 32)
    (j : Fin k2_t4_loop.trips) (acc : Acc F)
    (fa : Buf (Elt F) (arg10.view.loc (V d (cV L) (jV L)))) (fs : Buf (Elt F) (arg8.view.loc (V d (cV L) (jV L)))) :
    inv d L arg8 arg10 fa fs k.val j.val acc
      ⊢ wp frame (wpE (defs₀ (F := F)) 𝒱₀ (V d (cV L) (jV L)) none) Set.univ
          (k2_t4_body L arg2 harg2 arg3 harg3 arg4 harg4 arg5 harg5 arg6 harg6 arg7 harg7 arg8 harg8 arg9 harg9 arg10 harg10 arg11 harg11
            arg12 arg13 arg14 v59_r0 v59_r1 v26 z o k acc16 iv j acc)
          fun r => inv d L arg8 arg10 fa fs k.val (j.val + 1) r := by
  have hoff : ∀ (r : Fin 8), k2_off7 k j (BitVec.ofNat 32 r.val) 0 = 2048 * k.val + 128 * j.val + 16 * r.val := fun r => by
    rw [k2_off7_eq k j r]; rfl
  have ha : ∀ (r : Fin 8) n, 2048 * k.val + 128 * j.val + 16 * r.val = n →
      View.readAt (Elt F) arg10.view (Rect.unit (s := S16384) (k2_off7 k j (BitVec.ofNat 32 r.val)) S16.size (k2_off7_inb k j r)).toLoadRect fa
        = lanes (arg10.view.read (Elt F) fa) n := fun r n hn => readAt_lanes arg10 _ _ ((hoff r).trans hn) fa
  have hs : ∀ (r : Fin 8) n, 2048 * k.val + 128 * j.val + 16 * r.val = n →
      View.readAt (Elt F) arg8.view (Rect.unit (s := S16384) (k2_off7 k j (BitVec.ofNat 32 r.val)) S16.size (k2_off7_inb k j r)).toLoadRect fs
        = lanes (arg8.view.read (Elt F) fs) n := fun r n hn => readAt_lanes arg8 _ _ ((hoff r).trans hn) fs
  unfold k2_t4_body inv
  simp only [rowAcc]
  unfold macs
  rw [← ha 0 (2048 * k.val + 128 * j.val) rfl, ← ha 1 (2048 * k.val + 128 * j.val + 16) rfl, ← ha 2 (2048 * k.val + 128 * j.val + 32) rfl, ← ha 3 (2048 * k.val + 128 * j.val + 48) rfl, ← ha 4 (2048 * k.val + 128 * j.val + 64) rfl, ← ha 5 (2048 * k.val + 128 * j.val + 80) rfl, ← ha 6 (2048 * k.val + 128 * j.val + 96) rfl, ← ha 7 (2048 * k.val + 128 * j.val + 112) rfl]
  rw [← hs 0 (2048 * k.val + 128 * j.val) rfl, ← hs 1 (2048 * k.val + 128 * j.val + 16) rfl, ← hs 2 (2048 * k.val + 128 * j.val + 32) rfl, ← hs 3 (2048 * k.val + 128 * j.val + 48) rfl, ← hs 4 (2048 * k.val + 128 * j.val + 64) rfl, ← hs 5 (2048 * k.val + 128 * j.val + 80) rfl, ← hs 6 (2048 * k.val + 128 * j.val + 96) rfl, ← hs 7 (2048 * k.val + 128 * j.val + 112) rfl]
  iintro ⟨%hacc, Ha, Hs⟩
  subst hacc
  sl_exec_parts
  sl_step
  isplitr
  · ipureintro
    sl_unfold_words
    rfl
  isplitl [Ha]; · iexact Ha
  iexact Hs

/-- What a sweep over the eight rows holds. -/
def rowInv (argA : Memref sig .scVector .vmem S16384 .f32) (term : ℕ → FVec F S16 .f32) (a₀ : FVec F S16 .f32)
    (fa : Buf (Elt F) (argA.view.loc (V d (cV L) (jV L)))) (fs : Buf (Elt F) (arg8.view.loc (V d (cV L) (jV L))))
    (fm : Buf (Elt F) (arg6.view.loc (V d (cV L) (jV L)))) (k : ℕ) (acc : FVec F S16 .f32) : sProp 𝕄 :=
  iprop(⌜acc = accTo term a₀ k⌝
    ∗ (argA.view.loc (V d (cV L) (jV L)) ↦[argA.view.set]{fullShare} fa) ∗ (arg8.view.loc (V d (cV L) (jV L)) ↦[arg8.view.set]{fullShare} fs)
    ∗ (arg6.view.loc (V d (cV L) (jV L)) ↦[arg6.view.set]{fullShare} fm)
    ∗ ∃ f7 : Buf (Elt F) (arg7.view.loc (V d (cV L) (jV L))), ⌜UpperZero (F := F) (arg7.view.read (Elt F) f7)⌝ ∗ (arg7.view.loc (V d (cV L) (jV L)) ↦[arg7.view.set]{fullShare} f7))

/-- One row: its chunks, its fold, its hinge. -/
theorem row_step (w : BitVec 32) (cst : F .f32) (v26 : FVec F S16 .f32) (k : Fin k2_t3_loop.trips) (a₀ acc : FVec F S16 .f32)
    (fa : Buf (Elt F) (arg10.view.loc (V d (cV L) (jV L)))) (fs : Buf (Elt F) (arg8.view.loc (V d (cV L) (jV L))))
    (fm : Buf (Elt F) (arg6.view.loc (V d (cV L) (jV L)))) :
    rowInv d L arg6 arg7 arg8 arg10 (rowTerm v26 (arg6.view.read (Elt F) fm) (arg10.view.read (Elt F) fa) (arg8.view.read (Elt F) fs)) a₀ fa fs fm k.val acc
      ⊢ wp frame (wpE (defs₀ (F := F)) 𝒱₀ (V d (cV L) (jV L)) none) Set.univ
          (k2_t3_body L arg2 harg2 arg3 harg3 arg4 harg4 arg5 harg5 arg6 harg6 arg7 harg7 arg8 harg8 arg9 harg9 arg10 harg10 arg11 harg11
            arg12 arg13 arg14 v59_r0 v59_r1 w v26 cst k acc)
          (rowInv d L arg6 arg7 arg8 arg10 (rowTerm v26 (arg6.view.read (Elt F) fm) (arg10.view.read (Elt F) fa) (arg8.view.read (Elt F) fs)) a₀ fa fs fm (k.val + 1)) := by
  have hm : View.readAt (Elt F) arg6.view (Rect.unit (s := S32) (k2_off8 k) S16.size (k2_off8_inb k)).toLoadRect fm
      = lanes (arg6.view.read (Elt F) fm) k.val := readAt_lanes arg6 _ _ (by rw [k2_off8_eq k]; rfl) fm
  unfold k2_t3_body
  rw [k2_part6_eq_skeleton]
  unfold k2_part6_skel rowInv
  iintro ⟨%hacc₀, Ha, Hs, Hm, %f7, %h7, H7⟩
  sl_exec
  sl_for (inv d L arg8 arg10 fa fs k.val) $$ [Ha Hs]
  case region =>
    intro j acc'
    exact inner_step d L arg2 harg2 arg3 harg3 arg4 harg4 arg5 harg5 arg6 harg6 arg7 harg7 arg8 harg8 arg9 harg9 arg10 harg10 arg11 harg11
      arg12 arg13 arg14 v59_r0 v59_r1 v26 0#32 1#32 k acc (Scf.iv 0#32 1#32 k.val) j acc' fa fs
  · unfold inv
    isplitr; · ipureintro; rfl
    isplitl [Ha]; · iexact Ha
    iexact Hs
  iintro %x HI
  unfold inv
  icases HI with ⟨%hacc, Ha, Hs⟩
  rw [show Scf.trips k2_t4_loop.lb k2_t4_loop.ub k2_t4_loop.st = 16 by decide] at hacc
  sl_exec
  sl_step
  have hz : UpperZero (F := F) (arg7.view.read (Elt F) (arg7.view.writes (Elt F) f7 [])) := h7
  isplitr
  · ipureintro
    sl_unfold_words
    rw [readAt_cons arg7.view f7 _ _ _ 8 _ hz, readAt_cons arg7.view f7 _ _ _ 4 _ (upperZero_cons _ _ _ _ _ hz),
      readAt_cons arg7.view f7 _ _ _ 2 _ (upperZero_cons _ _ _ _ _ (upperZero_cons _ _ _ _ _ hz)),
      readAt_cons arg7.view f7 _ _ _ 1 _ (upperZero_cons _ _ _ _ _ (upperZero_cons _ _ _ _ _ (upperZero_cons _ _ _ _ _ hz)))]
    subst hacc
    refine (pay_row v26 acc _ _ _ _ _ _ rfl rfl rfl rfl).trans ?_
    rw [hacc₀]
    rfl
  isplitl [Ha]; · iexact Ha
  isplitl [Hs]; · iexact Hs
  isplitl [Hm]; · iexact Hm
  iexists _; isplitr
  swap
  · iexact H7
  · ipureintro
    sl_unfold_words
    exact upperZero_cons _ _ _ _ _ (upperZero_cons _ _ _ _ _ (upperZero_cons _ _ _ _ _ (upperZero_cons _ _ _ _ _ hz)))

/-- The third sweep's row is the second's, on the other buffer. -/
theorem t5_body_eq (w : BitVec 32) (v26 : FVec F S16 .f32) (cst : F .f32) :
    k2_t5_body L arg2 harg2 arg3 harg3 arg4 harg4 arg5 harg5 arg6 harg6 arg7 harg7 arg8 harg8 arg9 harg9 arg10 harg10 arg11 harg11
        arg12 arg13 arg14 v59_r0 v59_r1 w v26 cst
      = k2_t3_body L arg2 harg2 arg3 harg3 arg4 harg4 arg5 harg5 arg6 harg6 arg7 harg7 arg8 harg8 arg10 harg10 arg9 harg9 arg11 harg11
        arg12 arg13 arg14 v59_r0 v59_r1 w v26 cst := rfl

/-- The fourth sweep's row is the second's. -/
theorem t7_body_eq (w : BitVec 32) (v26 : FVec F S16 .f32) (cst : F .f32) :
    k2_t7_body L arg2 harg2 arg3 harg3 arg4 harg4 arg5 harg5 arg6 harg6 arg7 harg7 arg8 harg8 arg9 harg9 arg10 harg10 arg11 harg11
        arg12 arg13 arg14 v59_r0 v59_r1 w v26 cst
      = k2_t3_body L arg2 harg2 arg3 harg3 arg4 harg4 arg5 harg5 arg6 harg6 arg7 harg7 arg8 harg8 arg9 harg9 arg10 harg10 arg11 harg11
        arg12 arg13 arg14 v59_r0 v59_r1 w v26 cst := rfl

/-- One row of the first sweep: its chunks, its fold, its hinge, its filler. -/
theorem row_step₁ (w : BitVec 32) (cst : F .f32) (v26 : FVec F S16 .f32) (k : Fin k2_t1_loop.trips) (a₀ acc : FVec F S16 .f32)
    (fa : Buf (Elt F) (arg9.view.loc (V d (cV L) (jV L)))) (fs : Buf (Elt F) (arg8.view.loc (V d (cV L) (jV L))))
    (fm : Buf (Elt F) (arg6.view.loc (V d (cV L) (jV L)))) :
    rowInv d L arg6 arg7 arg8 arg9 (fun k => addf (rowTerm v26 (arg6.view.read (Elt F) fm) (arg9.view.read (Elt F) fa) (arg8.view.read (Elt F) fs) k) (fillTerm v26 (arg6.view.read (Elt F) fm) k)) a₀ fa fs fm k.val acc
      ⊢ wp frame (wpE (defs₀ (F := F)) 𝒱₀ (V d (cV L) (jV L)) none) Set.univ
          (k2_t1_body L arg2 harg2 arg3 harg3 arg4 harg4 arg5 harg5 arg6 harg6 arg7 harg7 arg8 harg8 arg9 harg9 arg10 harg10 arg11 harg11
            arg12 arg13 arg14 v59_r0 v59_r1 w v26 cst k acc)
          (rowInv d L arg6 arg7 arg8 arg9 (fun k => addf (rowTerm v26 (arg6.view.read (Elt F) fm) (arg9.view.read (Elt F) fa) (arg8.view.read (Elt F) fs) k) (fillTerm v26 (arg6.view.read (Elt F) fm) k)) a₀ fa fs fm (k.val + 1)) := by
  have hm : View.readAt (Elt F) arg6.view (Rect.unit (s := S32) (k2_off6 k) S16.size (k2_off6_inb k)).toLoadRect fm
      = lanes (arg6.view.read (Elt F) fm) k.val := readAt_lanes arg6 _ _ (by rw [k2_off6_eq k]; rfl) fm
  unfold k2_t1_body
  rw [k2_part3_eq_skeleton]
  unfold k2_part3_skel rowInv
  iintro ⟨%hacc₀, Ha, Hs, Hm, %f7, %h7, H7⟩
  rw [wp_bind]
  sl_exec
  sl_for (inv d L arg8 arg9 fa fs k.val) $$ [Ha Hs]
  case region =>
    intro j acc'
    exact inner_step d L arg2 harg2 arg3 harg3 arg4 harg4 arg5 harg5 arg6 harg6 arg7 harg7 arg8 harg8 arg10 harg10 arg9 harg9 arg11 harg11
      arg12 arg13 arg14 v59_r0 v59_r1 v26 0#32 1#32 k acc (Scf.iv 0#32 1#32 k.val) j acc' fa fs
  · unfold inv
    isplitr; · ipureintro; rfl
    isplitl [Ha]; · iexact Ha
    iexact Hs
  iintro %x HI
  unfold inv
  icases HI with ⟨%hacc, Ha, Hs⟩
  rw [show Scf.trips k2_t2_loop.lb k2_t2_loop.ub k2_t2_loop.st = 16 by decide] at hacc
  sl_exec
  sl_step
  have hz : UpperZero (F := F) (arg7.view.read (Elt F) (arg7.view.writes (Elt F) f7 [])) := h7
  isplitr
  · ipureintro
    sl_unfold_words
    rw [readAt_cons arg7.view f7 _ _ _ 8 _ hz, readAt_cons arg7.view f7 _ _ _ 4 _ (upperZero_cons _ _ _ _ _ hz),
      readAt_cons arg7.view f7 _ _ _ 2 _ (upperZero_cons _ _ _ _ _ (upperZero_cons _ _ _ _ _ hz)),
      readAt_cons arg7.view f7 _ _ _ 1 _ (upperZero_cons _ _ _ _ _ (upperZero_cons _ _ _ _ _ (upperZero_cons _ _ _ _ _ hz)))]
    subst hacc
    refine (pay_row₁ v26 acc _ (arg6.view.read (Elt F) fm) k.val _ _ _ _ rfl rfl rfl rfl).trans ?_
    rw [hacc₀]
    rfl
  isplitl [Ha]; · iexact Ha
  isplitl [Hs]; · iexact Hs
  isplitl [Hm]; · iexact Hm
  iexists _; isplitr
  swap
  · iexact H7
  · ipureintro
    sl_unfold_words
    exact upperZero_cons _ _ _ _ _ (upperZero_cons _ _ _ _ _ (upperZero_cons _ _ _ _ _ (upperZero_cons _ _ _ _ _ hz)))

end Args

end Cert.Proof

end
-- ==== Proof.Tile.lean ====
/-
  The SparseCore kernel's task on one vector subcore: it fetches its slice of the mask, of the sign rows and, a batch at a time, of
  the attention weights; sweeps the rows; and writes its sixteen lanes to its row of the result.
-/
module

public import proofs.«01_k».proof.Proof.Loop
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The buffers -/

abbrev mLoc (d : Dev nD) : Loc nD τ sig := (SparseCore.T d).loc main_v8
abbrev sLoc (d : Dev nD) : Loc nD τ sig := (SparseCore.T d).loc main_v9
abbrev aLoc (d : Dev nD) : Loc nD τ sig := (SparseCore.T d).loc main_v10
abbrev oLoc (d : Dev nD) : Loc nD τ sig := (SparseCore.T d).loc main_v11

local notation "mV" => (Memref.whole Cert.KernelIdeal.main_v8_scv : Memref Cert.KernelIdeal.sig Kind.scVector Space.hbm Cert.KernelIdeal.S256 EltTy.f32)
local notation "sV" => (Memref.whole Cert.KernelIdeal.main_v9_scv : Memref Cert.KernelIdeal.sig Kind.scVector Space.hbm Cert.KernelIdeal.S524288 EltTy.f32)
local notation "aV" => (Memref.whole Cert.KernelIdeal.main_v10_scv : Memref Cert.KernelIdeal.sig Kind.scVector Space.hbm Cert.KernelIdeal.S16777216 EltTy.f32)
local notation "oV" => (Memref.whole Cert.KernelIdeal.main_v11_scv : Memref Cert.KernelIdeal.sig Kind.scVector Space.hbm Cert.KernelIdeal.S32x16 EltTy.f32)
local notation "b0" => (Memref.whole Cert.KernelIdeal.cc2_scratch0 : Memref Cert.KernelIdeal.sig Kind.scVector Space.vmem Cert.KernelIdeal.S32 EltTy.f32)
local notation "b1" => (Memref.whole Cert.KernelIdeal.cc2_scratch1 : Memref Cert.KernelIdeal.sig Kind.scVector Space.vmem Cert.KernelIdeal.S32 EltTy.f32)
local notation "b2" => (Memref.whole Cert.KernelIdeal.cc2_scratch2 : Memref Cert.KernelIdeal.sig Kind.scVector Space.vmem Cert.KernelIdeal.S16384 EltTy.f32)
local notation "b3" => (Memref.whole Cert.KernelIdeal.cc2_scratch3 : Memref Cert.KernelIdeal.sig Kind.scVector Space.vmem Cert.KernelIdeal.S16384 EltTy.f32)
local notation "b4" => (Memref.whole Cert.KernelIdeal.cc2_scratch4 : Memref Cert.KernelIdeal.sig Kind.scVector Space.vmem Cert.KernelIdeal.S16384 EltTy.f32)
local notation "b5" => (Memref.whole Cert.KernelIdeal.cc2_scratch5 : Memref Cert.KernelIdeal.sig Kind.scVector Space.vmem Cert.KernelIdeal.S16 EltTy.f32)

section Tile

variable (d : Dev nD) (L : grid2.Coords)

/-- The result's row the task writes. -/
abbrev oRowK (L : grid2.Coords) : Memref sig .scVector .hbm S16 .f32 :=
  ((oV).slice (Rect.unit (s := S32x16) (k2_off13 L) S1x16.size (k2_off13_inb L)) (fun _ => rfl)).squeeze S16 squeezes_S1x16_S16

abbrev cell0 (d : Dev nD) (c : Fin τ.nSC) (i : Fin τ.nSub) : GSem nD τ sig := (V d c i, .dma cc2_scratch6.sem)
abbrev cell1 (d : Dev nD) (c : Fin τ.nSC) (i : Fin τ.nSub) : GSem nD τ sig := (V d c i, .dma cc2_scratch7.sem)
abbrev cell2 (d : Dev nD) (c : Fin τ.nSC) (i : Fin τ.nSub) : GSem nD τ sig := (V d c i, .dma cc2_scratch8.sem)
abbrev cell3 (d : Dev nD) (c : Fin τ.nSC) (i : Fin τ.nSub) : GSem nD τ sig := (V d c i, .dma cc2_scoped0.sem)
abbrev cell4 (d : Dev nD) (c : Fin τ.nSC) (i : Fin τ.nSub) : GSem nD τ sig := (V d c i, .dma cc2_scoped1.sem)

/-- Sixteen thousand consecutive elements of a flat array, from position `n` on. -/
def slab {N : ℕ} [NeZero N] (X : (⟨1, ![N]⟩ : Shape).Idx → Elt F .f32) (n : ℕ) : S16384.Idx → Elt F .f32 :=
  fun x => X (ix1 (Fin.ofNat N (n + (x 0).val)))

/-- The task's eight mask elements, zeros above. -/
def maskOf (L : grid2.Coords) (X : S256.Idx → Elt F .f32) : S32.Idx → Elt F .f32 := fun y =>
  if (y 0).val < 8 then X (ix1 (Fin.ofNat 256 (16 * (L 1).val + 8 * (L 0).val + (y 0).val))) else Scalar.ofBits .f32 0x00000000#32

/-- The task's sign rows. -/
def signOf (L : grid2.Coords) (X : S524288.Idx → Elt F .f32) : S16384.Idx → Elt F .f32 := slab X (32768 * (L 1).val + 16384 * (L 0).val)

/-- The task's weights of batch `r`. -/
def attOf (L : grid2.Coords) (X : S16777216.Idx → Elt F .f32) (r : ℕ) : S16384.Idx → Elt F .f32 :=
  slab X (4194304 * r + 32768 * (L 1).val + 16384 * (L 0).val)

/-- The task's sixteen lanes. -/
def tileOut (L : grid2.Coords) (M : S256.Idx → Elt F .f32) (S : S524288.Idx → Elt F .f32) (A : S16777216.Idx → Elt F .f32) : FVec F S16 .f32 :=
  accTo (rowTerm k2_pay87 (maskOf L M) (attOf L A 3) (signOf L S))
    (accTo (rowTerm k2_pay87 (maskOf L M) (attOf L A 2) (signOf L S))
      (accTo (rowTerm k2_pay87 (maskOf L M) (attOf L A 1) (signOf L S))
        (accTo (fun k => addf (rowTerm k2_pay87 (maskOf L M) (attOf L A 0) (signOf L S) k) (fillTerm k2_pay87 (maskOf L M) k)) zero16 8) 8) 8) 8

/-- A slice of a flat array reads its slab. -/
theorem read_slab {κ : Kind} {sp : Space} {N : ℕ} [NeZero N] (A : Memref sig κ sp ⟨1, ![N]⟩ .f32) (off : Fin 1 → ℕ)
    (inb : ∀ a, off a + S16384.size a ≤ (⟨1, ![N]⟩ : Shape).size a) (h) {n : ℕ} (hn : off 0 = n) (f) :
    View.read (Elt F) (A.slice (Rect.unit (s := ⟨1, ![N]⟩) off S16384.size inb) h).view f = slab (F := F) (A.view.read (Elt F) f) n := by
  subst hn
  funext x
  refine congrArg (A.view.read (Elt F) f) ?_
  funext a
  match a with
  | ⟨0, _⟩ =>
    have h0 : off 0 + 16384 ≤ N := inb 0
    have hx : (x 0).val < 16384 := (x 0).isLt
    refine Fin.ext ?_
    show off 0 + 1 * (x 0).val = (off 0 + (x 0).val) % N
    rw [Nat.mod_eq_of_lt (by omega)]; omega

/-- The mask buffer: zeros, then the task's eight elements over the first. -/
theorem read_mask (f) (p : S8.Idx → Elt F .f32) (X : S256.Idx → Elt F .f32)
    (hp : ∀ x : S8.Idx, p x = X (ix1 (Fin.ofNat 256 (16 * (L 1).val + 8 * (L 0).val + (x 0).val)))) :
    View.read (Elt F) (b0).view ((b0).view.writes (Elt F) f
      [⟨Rect.unit ![0] S8.size inb_S32_S8_0, p⟩, ⟨Rect.unit ![16] S16.size inb_S32_S16_16, k2_pay85⟩, ⟨Rect.unit ![0] S16.size inb_S32_S16_0, k2_pay84⟩])
      = maskOf L X := by
  funext y
  unfold maskOf
  have hy32 : (y 0).val < 32 := (y 0).isLt
  split
  · next h8 =>
    exact (View.read_writes_cons_unit_of_mem _ f _ _ _ y (ix1 ⟨(y 0).val, h8⟩) rfl fun a => by
      match a with
      | ⟨0, _⟩ => show (y 0).val = 0 + (y 0).val; omega).trans (hp _)
  · next h8 =>
    refine (View.read_writes_cons_unit_of_not_mem _ f _ _ _ y rfl 0 (.inr (by show 0 + 8 ≤ (y 0).val; omega))).trans ?_
    by_cases h16 : (y 0).val < 16
    · refine (View.read_writes_cons_unit_of_not_mem _ f _ _ _ y rfl 0 (.inl h16)).trans ?_
      exact (View.read_writes_cons_unit_of_mem _ f _ _ _ y (ix1 ⟨(y 0).val, h16⟩) rfl fun a => by
        match a with
        | ⟨0, _⟩ => show (y 0).val = 0 + (y 0).val; omega).trans rfl
    · exact (View.read_writes_cons_unit_of_mem _ f _ _ _ y (ix1 ⟨(y 0).val - 16, by omega⟩) rfl fun a => by
        match a with
        | ⟨0, _⟩ => show (y 0).val = 16 + ((y 0).val - 16); omega).trans rfl

/-- The reduction buffer's upper half, cleared. -/
theorem read_upper (f) : UpperZero (F := F) (View.read (Elt F) (b1).view ((b1).view.writes (Elt F) f [⟨Rect.unit ![16] S16.size inb_S32_S16_16, k2_pay86⟩])) := fun y hy =>
  (View.read_writes_cons_unit_of_mem _ f _ _ _ y (ix1 ⟨(y 0).val - 16, by have : (y 0).val < 32 := (y 0).isLt; omega⟩) rfl fun a => by
        match a with
        | ⟨0, _⟩ => show (y 0).val = 16 + ((y 0).val - 16); omega).trans rfl

theorem read_sign (h) (f : S524288.Idx → Elt F .f32) :
    View.read (Elt F) ((sV).slice (Rect.unit (s := S524288) (k2_off2 L) S16384.size (k2_off2_inb L)) h).view f = signOf L f :=
  read_slab (sV) _ _ h (by rw [k2_off2_eq]; rfl) f

theorem read_att0 (h) (f : S16777216.Idx → Elt F .f32) :
    View.read (Elt F) ((aV).slice (Rect.unit (s := S16777216) (k2_off3 L) S16384.size (k2_off3_inb L)) h).view f = attOf L f 0 :=
  read_slab (aV) _ _ h (by rw [k2_off3_eq]; show _ = 4194304 * 0 + 32768 * (L 1).val + 16384 * (L 0).val; simp) f

theorem read_att (r : Fin 3) (h) (f : S16777216.Idx → Elt F .f32) :
    View.read (Elt F) ((aV).slice (Rect.unit (s := S16777216) (k2_off4 L (BitVec.ofNat 32 (2048 + 2048 * r.val))) S16384.size (k2_off4_inb L r)) h).view f
      = attOf L f (r.val + 1) :=
  read_slab (aV) _ _ h (by rw [k2_off4_eq]; show 4194304 * r.val + 32768 * (L 1).val + 16384 * (L 0).val + 4194304 = 4194304 * (r.val + 1) + 32768 * (L 1).val + 16384 * (L 0).val; omega) f

theorem read_maskSlice (h) (f : S256.Idx → Elt F .f32) (x : S8.Idx) :
    View.read (Elt F) ((mV).slice (Rect.unit (s := S256) (k2_off1 L) S8.size (k2_off1_inb L)) h).view f x
      = f (ix1 (Fin.ofNat 256 (16 * (L 1).val + 8 * (L 0).val + (x 0).val))) := by
  refine congrArg f ?_
  funext a
  match a with
  | ⟨0, _⟩ =>
    have h0 : k2_off1 L 0 + 8 ≤ 256 := k2_off1_inb L 0
    have hx : (x 0).val < 8 := (x 0).isLt
    refine Fin.ext ?_
    show k2_off1 L 0 + 1 * (x 0).val = (16 * (L 1).val + 8 * (L 0).val + (x 0).val) % 256
    have h1 : k2_off1 L 0 = 16 * (L 1).val + 8 * (L 0).val := by rw [k2_off1_eq]; rfl
    rw [h1] at h0 ⊢
    rw [Nat.mod_eq_of_lt (by omega)]; omega

/-- A whole store is what the buffer reads, whatever it covers. -/
theorem read_whole_cons {κ : Kind} {sp : Space} {s : Shape} {e : EltTy} (v : View sig κ sp s e) (f : v.ty.Contents (Elt F)) (x : s.Idx → Elt F e) (Ls) :
    v.read (Elt F) (v.writes (Elt F) f (⟨Rect.whole s, x⟩ :: Ls)) = x := by
  funext y
  have h := View.read_writes_cons_emb v f (Rect.whole s) x Ls y
  rwa [Rect.emb_whole_apply] at h

/-- The coordinates of a (core, tile) pair. -/
def coordsV (c : Fin 2) (s : Fin 16) : grid2.Coords := fun
  | 0 => c
  | 1 => s
  | ⟨_ + 2, h⟩ => absurd h (Nat.not_lt.2 (Nat.le_add_left _ _))

/-- The whole result: each task's lanes in its row. -/
def outArr (M : S256.Idx → Elt F .f32) (S : S524288.Idx → Elt F .f32) (A : S16777216.Idx → Elt F .f32) : S32x16.Idx → Elt F .f32 := fun y =>
  tileOut (coordsV ⟨(y 0).val % 2, Nat.mod_lt _ (by decide)⟩ ⟨(y 0).val / 2, by have : (y 0).val < 32 := (y 0).isLt; omega⟩) M S A (ix1 (y 1))

/-- The elements of a task's row. -/
theorem emb_row (y : S16.Idx) : ((oRowK L).view.emb y 0).val = 2 * (L 1).val + (L 0).val ∧ ((oRowK L).view.emb y 1).val = (y 0).val := by
  have e : Shape.reshapeEquiv squeezes_S1x16_S16.numel_eq y = (Fin.cons (⟨0, Nat.one_pos⟩ : Fin 1) y : S1x16.Idx) :=
    Shape.reshapeEquiv_cons_one _ y
  have h0 : (oRowK L).view.emb y = (Rect.unit (s := S32x16) (k2_off13 L) S1x16.size (k2_off13_inb L)).emb (Shape.reshapeEquiv squeezes_S1x16_S16.numel_eq y) := rfl
  rw [h0, e]
  constructor
  · show k2_off13 L 0 + 1 * 0 = _
    rw [k2_off13_eq]; rfl
  · show k2_off13 L 1 + 1 * (y 0).val = _
    rw [k2_off13_eq]; show 0 + 1 * (y 0).val = _; omega

/-- Written with its lanes, a task's row holds the result's. -/
theorem row_value (fO : Buf (Elt F) (oLoc d)) (M : S256.Idx → Elt F .f32) (S : S524288.Idx → Elt F .f32) (A : S16777216.Idx → Elt F .f32)
    (x : FVec F S16 .f32) (hx : x = tileOut L M S A) :
    ((oRowK L).view.loc (V d (cV L) (jV L)) ↦[(oRowK L).view.set]{fullShare} (oRowK L).view.writes (Elt F) fO [⟨Rect.whole S16, x⟩] : sProp 𝕄)
      = ((oRowK L).view.loc (V d (cV L) (jV L)) ↦[(oRowK L).view.set]{fullShare} outArr M S A) := by
  refine pointsTo_congr fun i hi => ?_
  obtain ⟨y, -, rfl⟩ := Finset.mem_map.mp hi
  refine (congrFun (View.read_writes_whole (oRowK L).view fO x) y).trans ?_
  rw [hx]
  obtain ⟨h0, h1⟩ := emb_row L y
  have hc : (L 0).val < 2 := (L 0).isLt
  have hs : (L 1).val < 16 := (L 1).isLt
  unfold outArr
  refine congrArg₂ (fun K z => tileOut K M S A z) ?_ ?_
  · funext a
    match a with
    | 0 => exact Fin.ext (by show (L 0).val = ((oRowK L).view.emb y 0).val % 2; omega)
    | 1 => exact Fin.ext (by show (L 1).val = ((oRowK L).view.emb y 0).val / 2; omega)
  · funext a
    match a with
    | ⟨0, _⟩ => exact Fin.ext h1.symm

theorem read_lanes (f) (x : FVec F S16 .f32) :
    View.read (Elt F) (b5).view ((b5).view.writes (Elt F) f [⟨Rect.unit ![0] S16.size inb_S16_S16_0, x⟩]) = x := by
  funext y
  exact View.read_writes_cons_unit_of_mem _ f _ _ _ y y rfl fun a => by
    match a with
    | ⟨0, _⟩ => show (y 0).val = 0 + (y 0).val; omega

set_option maxHeartbeats 2000000 in
theorem exec_core (O : CellTallies nD τ sig (HIx 1)) (W : Waits sig (HIx 1)) (q : PosShare TreeShare)
    (fM : Buf (Elt F) (mLoc d)) (fS : Buf (Elt F) (sLoc d)) (fA : Buf (Elt F) (aLoc d)) (fO : Buf (Elt F) (oLoc d))
    (f0 : Buf (Elt F) ((V d (cV L) (jV L)).loc cc2_scratch0)) (f1 : Buf (Elt F) ((V d (cV L) (jV L)).loc cc2_scratch1))
    (f2 : Buf (Elt F) ((V d (cV L) (jV L)).loc cc2_scratch2)) (f3 : Buf (Elt F) ((V d (cV L) (jV L)).loc cc2_scratch3))
    (f4 : Buf (Elt F) ((V d (cV L) (jV L)).loc cc2_scratch4)) (f5 : Buf (Elt F) ((V d (cV L) (jV L)).loc cc2_scratch5)) :
    (iprop(Transfers.MayWaits (V d (cV L) (jV L)) (default : HIx 1) O
      ∗ ((mV).view.loc (V d (cV L) (jV L)) ↦[(mV).view.set]{q} fM)
      ∗ ((sV).view.loc (V d (cV L) (jV L)) ↦[(sV).view.set]{q} fS)
      ∗ ((aV).view.loc (V d (cV L) (jV L)) ↦[(aV).view.set]{q} fA)
      ∗ ((oRowK L).view.loc (V d (cV L) (jV L)) ↦[(oRowK L).view.set]{fullShare} fO)
      ∗ ((b0).view.loc (V d (cV L) (jV L)) ↦[(b0).view.set]{fullShare} f0)
      ∗ ((b1).view.loc (V d (cV L) (jV L)) ↦[(b1).view.set]{fullShare} f1)
      ∗ ((b2).view.loc (V d (cV L) (jV L)) ↦[(b2).view.set]{fullShare} f2)
      ∗ ((b3).view.loc (V d (cV L) (jV L)) ↦[(b3).view.set]{fullShare} f3)
      ∗ ((b4).view.loc (V d (cV L) (jV L)) ↦[(b4).view.set]{fullShare} f4)
      ∗ ((b5).view.loc (V d (cV L) (jV L)) ↦[(b5).view.set]{fullShare} f5)
      ∗ semVal (cell0 d (cV L) (jV L)) 0 ∗ semVal (cell1 d (cV L) (jV L)) 0 ∗ semVal (cell2 d (cV L) (jV L)) 0
      ∗ semVal (cell3 d (cV L) (jV L)) 0 ∗ semVal (cell4 d (cV L) (jV L)) 0
      ∗ owes (V d (cV L) (jV L)) O W) : sProp 𝕄)
      ⊢ wp frame (wpE (defs₀ (F := F)) 𝒱₀ (V d (cV L) (jV L)) none) Set.univ
          (cc2_sc_kernel L mV (Memref.isWhole_whole _) sV (Memref.isWhole_whole _) aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1)
          fun _ => iprop(((mV).view.loc (V d (cV L) (jV L)) ↦[(mV).view.set]{q} fM)
            ∗ ((sV).view.loc (V d (cV L) (jV L)) ↦[(sV).view.set]{q} fS)
            ∗ ((aV).view.loc (V d (cV L) (jV L)) ↦[(aV).view.set]{q} fA)
            ∗ ((oRowK L).view.loc (V d (cV L) (jV L)) ↦[(oRowK L).view.set]{fullShare} outArr fM fS fA)
            ∗ (∃ g, ((b0).view.loc (V d (cV L) (jV L)) ↦[(b0).view.set]{fullShare} g))
            ∗ (∃ g, ((b1).view.loc (V d (cV L) (jV L)) ↦[(b1).view.set]{fullShare} g))
            ∗ (∃ g, ((b2).view.loc (V d (cV L) (jV L)) ↦[(b2).view.set]{fullShare} g))
            ∗ (∃ g, ((b3).view.loc (V d (cV L) (jV L)) ↦[(b3).view.set]{fullShare} g))
            ∗ (∃ g, ((b4).view.loc (V d (cV L) (jV L)) ↦[(b4).view.set]{fullShare} g))
            ∗ (∃ g, ((b5).view.loc (V d (cV L) (jV L)) ↦[(b5).view.set]{fullShare} g))
            ∗ semVal (cell0 d (cV L) (jV L)) 0 ∗ semVal (cell1 d (cV L) (jV L)) 0 ∗ semVal (cell2 d (cV L) (jV L)) 0
            ∗ semVal (cell3 d (cV L) (jV L)) 0 ∗ semVal (cell4 d (cV L) (jV L)) 0
            ∗ ∃ W', ⌜∀ p ∈ W', p ∈ W ∨ p.2 = none ∨ p.2 = some (0 : Fin 1)⌝ ∗ owes (V d (cV L) (jV L)) O W') := by
  rw [cc2_sc_kernel_eq_skeleton]
  unfold cc2_sc_kernel_skel
  rw [k2_part13_eq_skeleton, k2_part14_eq_skeleton]
  unfold k2_part13_skel k2_part14_skel
  iintro ⟨Hmw, Hm, Hs, Ha, Ho, H0, H1, H2, H3, H4, H5, S0, S1, S2, S3, S4, HO⟩
  rw [wp_bind]
  sl_exec
  rw [wp_bind]
  sl_exec
  have hM : View.read (Elt F) (b0).view ((b0).view.writes (Elt F) (b0).view.junk (⟨Rect.unit ![0] S8.size inb_S32_S8_0, exec_core.sl.dma6 d L fM⟩ :: exec_core.sl.H0_2)) = maskOf L fM := by
    sl_unfold_words
    exact read_mask L _ _ _ fun x => read_maskSlice L _ fM x
  have hS : View.read (Elt F) (b2).view ((b2).view.writes (Elt F) (b2).view.junk [⟨Rect.whole cc2_scratch2.ty.shape, exec_core.sl.dma6_1 d L fS⟩]) = signOf L fS := by
    rw [View.read_writes_whole]
    sl_unfold_words
    exact read_sign L _ fS
  have hA0 : View.read (Elt F) (b3).view ((b3).view.writes (Elt F) (b3).view.junk [⟨Rect.whole cc2_scratch3.ty.shape, exec_core.sl.dma6_2 d L fA⟩]) = attOf L fA 0 := by
    rw [View.read_writes_whole]
    sl_unfold_words
    exact read_att0 L _ fA
  have hU : UpperZero (F := F) (View.read (Elt F) (b1).view ((b1).view.writes (Elt F) f1 [⟨Rect.unit ![16] S16.size inb_S32_S16_16, k2_pay86⟩])) := read_upper f1
  sl_for (rowInv d L b0 b1 b2 b3 (fun k => addf (rowTerm k2_pay87 (maskOf L fM) (attOf L fA 0) (signOf L fS) k) (fillTerm k2_pay87 (maskOf L fM) k)) zero16
    ((b3).view.writes (Elt F) (b3).view.junk [⟨Rect.whole cc2_scratch3.ty.shape, exec_core.sl.dma6_2 d L fA⟩])
    ((b2).view.writes (Elt F) (b2).view.junk [⟨Rect.whole cc2_scratch2.ty.shape, exec_core.sl.dma6_1 d L fS⟩])
    ((b0).view.writes (Elt F) (b0).view.junk (⟨Rect.unit ![0] S8.size inb_S32_S8_0, exec_core.sl.dma6 d L fM⟩ :: exec_core.sl.H0_2))) $$ [H3 H2 H0 H1]
  case region =>
    intro k acc
    have h := row_step₁ d L mV (Memref.isWhole_whole _) sV (Memref.isWhole_whole _) aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1
      (exec_core.sl.v2 L) exec_core.sl.cst_3 k2_pay87 k zero16 acc
      ((b3).view.writes (Elt F) (b3).view.junk [⟨Rect.whole cc2_scratch3.ty.shape, exec_core.sl.dma6_2 d L fA⟩])
      ((b2).view.writes (Elt F) (b2).view.junk [⟨Rect.whole cc2_scratch2.ty.shape, exec_core.sl.dma6_1 d L fS⟩])
      ((b0).view.writes (Elt F) (b0).view.junk (⟨Rect.unit ![0] S8.size inb_S32_S8_0, exec_core.sl.dma6 d L fM⟩ :: exec_core.sl.H0_2))
    rw [hM, hS, hA0] at h
    exact h
  · unfold rowInv
    isplitr [H3 H2 H0 H1]
    · ipureintro; rfl
    · isplitl [H3]
      · iexact H3
      isplitl [H2]
      · iexact H2
      isplitl [H0]
      · iexact H0
      iexists _
      isplitr
      swap
      · iexact H1
      · ipureintro; exact hU
  iintro %acc1 HI
  unfold rowInv
  icases HI with ⟨%hacc1, H3, H2, H0, %g1, %hg1, H1⟩
  rw [show Scf.trips k2_t1_loop.lb k2_t1_loop.ub k2_t1_loop.st = 8 by decide] at hacc1
  sl_exec
  have hA1 : View.read (Elt F) (b4).view ((b4).view.writes (Elt F) (b4).view.junk [⟨Rect.whole cc2_scratch4.ty.shape, exec_core.sl.dma6_3 d L fA⟩]) = attOf L fA 1 := by
    rw [View.read_writes_whole]
    sl_unfold_words
    exact read_att L 0 _ fA
  sl_for (rowInv d L b0 b1 b2 b4 (rowTerm k2_pay87 (maskOf L fM) (attOf L fA 1) (signOf L fS)) acc1
    ((b4).view.writes (Elt F) (b4).view.junk [⟨Rect.whole cc2_scratch4.ty.shape, exec_core.sl.dma6_3 d L fA⟩])
    ((b2).view.writes (Elt F) (b2).view.junk [⟨Rect.whole cc2_scratch2.ty.shape, exec_core.sl.dma6_1 d L fS⟩])
    ((b0).view.writes (Elt F) (b0).view.junk (⟨Rect.unit ![0] S8.size inb_S32_S8_0, exec_core.sl.dma6 d L fM⟩ :: exec_core.sl.H0_2))) $$ [H4 H2 H0 H1]
  case region =>
    intro k acc
    have h := row_step d L mV (Memref.isWhole_whole _) sV (Memref.isWhole_whole _) aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1
      (exec_core.sl.v2 L) exec_core.sl.cst_3 k2_pay87 k acc1 acc
      ((b4).view.writes (Elt F) (b4).view.junk [⟨Rect.whole cc2_scratch4.ty.shape, exec_core.sl.dma6_3 d L fA⟩])
      ((b2).view.writes (Elt F) (b2).view.junk [⟨Rect.whole cc2_scratch2.ty.shape, exec_core.sl.dma6_1 d L fS⟩])
      ((b0).view.writes (Elt F) (b0).view.junk (⟨Rect.unit ![0] S8.size inb_S32_S8_0, exec_core.sl.dma6 d L fM⟩ :: exec_core.sl.H0_2))
    rw [hM, hS, hA1] at h
    exact h
  · unfold rowInv
    isplitr [H4 H2 H0 H1]
    · ipureintro; rfl
    · isplitl [H4]
      · iexact H4
      isplitl [H2]
      · iexact H2
      isplitl [H0]
      · iexact H0
      iexists _
      isplitr
      swap
      · iexact H1
      · ipureintro; exact hg1
  iintro %acc2 HI
  unfold rowInv
  icases HI with ⟨%hacc2, H4, H2, H0, %g2, %hg2, H1⟩
  rw [show Scf.trips k2_t3_loop.lb k2_t3_loop.ub k2_t3_loop.st = 8 by decide] at hacc2
  sl_exec
  have hA2 : View.read (Elt F) (b3).view ((b3).view.writes (Elt F) (b3).view.junk [⟨Rect.whole S16384, exec_core.sl.dma0 d L fA⟩, ⟨Rect.whole cc2_scratch3.ty.shape, exec_core.sl.dma6_2 d L fA⟩]) = attOf L fA 2 := by
    refine (read_whole_cons _ _ _ _).trans ?_
    sl_unfold_words
    exact read_att L 1 _ fA
  sl_for (rowInv d L b0 b1 b2 b3 (rowTerm k2_pay87 (maskOf L fM) (attOf L fA 2) (signOf L fS)) acc2
    ((b3).view.writes (Elt F) (b3).view.junk [⟨Rect.whole S16384, exec_core.sl.dma0 d L fA⟩, ⟨Rect.whole cc2_scratch3.ty.shape, exec_core.sl.dma6_2 d L fA⟩])
    ((b2).view.writes (Elt F) (b2).view.junk [⟨Rect.whole cc2_scratch2.ty.shape, exec_core.sl.dma6_1 d L fS⟩])
    ((b0).view.writes (Elt F) (b0).view.junk (⟨Rect.unit ![0] S8.size inb_S32_S8_0, exec_core.sl.dma6 d L fM⟩ :: exec_core.sl.H0_2))) $$ [H3 H2 H0 H1]
  case region =>
    intro k acc
    have h := row_step d L mV (Memref.isWhole_whole _) sV (Memref.isWhole_whole _) aV (Memref.isWhole_whole _) oV (Memref.isWhole_whole _)
            b0 (Memref.isWhole_whole _) b1 (Memref.isWhole_whole _) b2 (Memref.isWhole_whole _) b4 (Memref.isWhole_whole _)
            b3 (Memref.isWhole_whole _) b5 (Memref.isWhole_whole _) cc2_scratch6 cc2_scratch7 cc2_scratch8 cc2_scoped0 cc2_scoped1
      (exec_core.sl.v2 L) exec_core.sl.cst_3 k2_pay87 k acc2 acc
      ((b3).view.writes (Elt F) (b3).view.junk [⟨Rect.whole S16384, exec_core.sl.dma0 d L fA⟩, ⟨Rect.whole cc2_scratch3.ty.shape, exec_core.sl.dma6_2 d L fA⟩])
      ((b2).view.writes (Elt F) (b2).view.junk [⟨Rect.whole cc2_scratch2.ty.shape, exec_core.sl.dma6_1 d L fS⟩])
      ((b0).view.writes (Elt F) (b0).view.junk (⟨Rect.unit ![0] S8.size inb_S32_S8_0, exec_core.sl.dma6 d L fM⟩ :: exec_core.sl.H0_2))
    rw [hM, hS, hA2] at h
    exact h
  · unfold rowInv
    isplitr [H3 H2 H0 H1]
    · ipureintro; rfl
    · isplitl [H3]
      · iexact H3
      isplitl [H2]
      · iexact H2
      isplitl [H0]
      · iexact H0
      iexists _
      isplitr
      swap
      · iexact H1
      · ipureintro; exact hg2
  iintro %acc3 HI
  unfold rowInv
  icases HI with ⟨%hacc3, H3, H2, H0, %g3, %hg3, H1⟩
  rw [show Scf.trips k2_t5_loop.lb k2_t5_loop.ub k2_t5_loop.st = 8 by decide] at hacc3
  sl_exec
  have hA3 : View.read (Elt F) (b4).view ((b4).view.writes (Elt F) (b4).view.junk [⟨Rect.whole S16384, exec_core.sl.dma0_1 d L fA⟩, ⟨Rect.whole cc2_scratch4.ty.shape, exec_core.sl.dma6_3 d L fA⟩]) = attOf L fA 3 := by
    refine (read_whole_cons _ _ _ _).trans ?_
    sl_unfold_words
    exact read_att L 2 _ fA
  sl_for (rowInv d L b0 b1 b2 b4 (rowTerm k2_pay87 (maskOf L fM) (attOf L fA 3) (signOf L fS)) acc3
    ((b4).view.writes (Elt F) (b4).view.junk [⟨Rect.whole S16384, exec_core.sl.dma0_1 d L fA⟩, ⟨Rect.whole cc2_scratch4.ty.shape, exec_core.sl.dma6_3 d L fA⟩])
    ((b2).view.writes (Elt F) (b2).view.junk [⟨Rect.whole cc2_scratch2.ty.shape, exec_core.sl.dma6_1 d L fS⟩])
    ((b0).view.writes (Elt F) (b0).view.junk (⟨Rect.unit ![0] S8.size inb_S32_S8_0, exec_core.sl.dma6 d L fM⟩ :: exec_core.sl.H0_2))) $$ [H4 H2 H0 H1]
  case region =>
    intro k acc
    have h := row_step d L mV (Memref.isWhole_whole _) sV (Memref.isWhole_whole _) aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1
      (exec_core.sl.v2 L) exec_core.sl.cst_3 k2_pay87 k acc3 acc
      ((b4).view.writes (Elt F) (b4).view.junk [⟨Rect.whole S16384, exec_core.sl.dma0_1 d L fA⟩, ⟨Rect.whole cc2_scratch4.ty.shape, exec_core.sl.dma6_3 d L fA⟩])
      ((b2).view.writes (Elt F) (b2).view.junk [⟨Rect.whole cc2_scratch2.ty.shape, exec_core.sl.dma6_1 d L fS⟩])
      ((b0).view.writes (Elt F) (b0).view.junk (⟨Rect.unit ![0] S8.size inb_S32_S8_0, exec_core.sl.dma6 d L fM⟩ :: exec_core.sl.H0_2))
    rw [hM, hS, hA3] at h
    exact h
  · unfold rowInv
    isplitr [H4 H2 H0 H1]
    · ipureintro; rfl
    · isplitl [H4]
      · iexact H4
      isplitl [H2]
      · iexact H2
      isplitl [H0]
      · iexact H0
      iexists _
      isplitr
      swap
      · iexact H1
      · ipureintro; exact hg3
  iintro %acc4 HI
  unfold rowInv
  icases HI with ⟨%hacc4, H4, H2, H0, %g4, %hg4, H1⟩
  rw [show Scf.trips k2_t7_loop.lb k2_t7_loop.ub k2_t7_loop.st = 8 by decide] at hacc4
  sl_exec
  have hx : exec_core.sl.dma2 d L f5 acc4 = tileOut L fM fS fA := by
    sl_unfold_words
    refine (read_lanes f5 _).trans ?_
    rw [hacc4, hacc3, hacc2, hacc1]
    exact shapeCast_self _ _
  have ho := Entails.of_eq (row_value d L fO fM fS fA _ hx)
  sl_step
  isplitl [Hm]
  · iexact Hm
  isplitl [Hs]
  · iexact Hs
  isplitl [Ha]
  · iexact Ha
  isplitl [Ho]
  · iapply ho $$ Ho
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [S0]
  · iexact S0
  isplitl [S1]
  · iexact S1
  isplitl [S2]
  · iexact S2
  isplitl [S3]
  · iexact S3
  isplitl [S4]
  · iexact S4
  iexists _
  isplitr
  swap
  · iexact HO
  · ipureintro
    intro p hp
    simp only [Finset.mem_insert] at hp
    rcases hp with rfl | rfl | rfl | rfl | rfl | rfl | rfl | hp
    iterate 7 exact .inr (.inl rfl)
    exact .inl hp

end Tile

end Cert.Proof

end
-- ==== Proof.Task.lean ====
/-
  The SparseCore call: what it carries to its two cores and their sixteen tiles, each tile's task from that, and the splits of the
  operands among them.
-/
module

public import proofs.«01_k».proof.Proof.Tile

@[expose] public section

noncomputable section

namespace Cert.Proof

open Cert.KernelIdeal Cert.KernelIdeal.Gen

open Idealize.ShloMosaic
open Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F
local notation "mV" => (Memref.whole Cert.KernelIdeal.main_v8_scv : Memref Cert.KernelIdeal.sig Kind.scVector Space.hbm Cert.KernelIdeal.S256 EltTy.f32)
local notation "sV" => (Memref.whole Cert.KernelIdeal.main_v9_scv : Memref Cert.KernelIdeal.sig Kind.scVector Space.hbm Cert.KernelIdeal.S524288 EltTy.f32)
local notation "aV" => (Memref.whole Cert.KernelIdeal.main_v10_scv : Memref Cert.KernelIdeal.sig Kind.scVector Space.hbm Cert.KernelIdeal.S16777216 EltTy.f32)
local notation "oV" => (Memref.whole Cert.KernelIdeal.main_v11_scv : Memref Cert.KernelIdeal.sig Kind.scVector Space.hbm Cert.KernelIdeal.S32x16 EltTy.f32)
local notation "b0" => (Memref.whole Cert.KernelIdeal.cc2_scratch0 : Memref Cert.KernelIdeal.sig Kind.scVector Space.vmem Cert.KernelIdeal.S32 EltTy.f32)
local notation "b1" => (Memref.whole Cert.KernelIdeal.cc2_scratch1 : Memref Cert.KernelIdeal.sig Kind.scVector Space.vmem Cert.KernelIdeal.S32 EltTy.f32)
local notation "b2" => (Memref.whole Cert.KernelIdeal.cc2_scratch2 : Memref Cert.KernelIdeal.sig Kind.scVector Space.vmem Cert.KernelIdeal.S16384 EltTy.f32)
local notation "b3" => (Memref.whole Cert.KernelIdeal.cc2_scratch3 : Memref Cert.KernelIdeal.sig Kind.scVector Space.vmem Cert.KernelIdeal.S16384 EltTy.f32)
local notation "b4" => (Memref.whole Cert.KernelIdeal.cc2_scratch4 : Memref Cert.KernelIdeal.sig Kind.scVector Space.vmem Cert.KernelIdeal.S16384 EltTy.f32)
local notation "b5" => (Memref.whole Cert.KernelIdeal.cc2_scratch5 : Memref Cert.KernelIdeal.sig Kind.scVector Space.vmem Cert.KernelIdeal.S16 EltTy.f32)

/-! ## The rows of the result -/

/-- The result's elements one task writes. -/
abbrev rowSet (c : Fin 2) (i : Fin 16) : Finset S32x16.Idx := (oRowK (coordsV c i)).view.set

theorem mem_rowSet {c : Fin 2} {i : Fin 16} {y : S32x16.Idx} : y ∈ rowSet c i ↔ (y 0).val = 2 * i.val + c.val := by
  constructor
  · intro h
    obtain ⟨x, -, rfl⟩ := Finset.mem_map.mp h
    exact (emb_row (coordsV c i) x).1
  · intro h
    refine Finset.mem_map.mpr ⟨ix1 (y 1), Finset.mem_univ _, ?_⟩
    obtain ⟨h0, h1⟩ := emb_row (coordsV c i) (ix1 (y 1))
    funext a
    match a with
    | 0 => exact Fin.ext (h0.trans h.symm)
    | 1 => exact Fin.ext h1

/-- The elements one core's tasks write. -/
abbrev coreSet (c : Fin 2) : Finset S32x16.Idx := (Finset.univ : Finset (Fin 16)).biUnion (rowSet c)

theorem rows_disjoint (c : Fin 2) : ∀ i ∈ (Finset.univ : Finset (Fin 16)), ∀ j ∈ (Finset.univ : Finset (Fin 16)), i ≠ j → Disjoint (rowSet c i) (rowSet c j) :=
  fun i _ j _ h => Finset.disjoint_left.mpr fun y hi hj => h (Fin.ext (by have := mem_rowSet.mp hi; have := mem_rowSet.mp hj; omega))

theorem cores_disjoint : ∀ c ∈ (Finset.univ : Finset (Fin 2)), ∀ e ∈ (Finset.univ : Finset (Fin 2)), c ≠ e → Disjoint (coreSet c) (coreSet e) :=
  fun c _ e _ h => Finset.disjoint_left.mpr fun y hc he => h (Fin.ext (by
    obtain ⟨i, -, hi⟩ := Finset.mem_biUnion.mp hc
    obtain ⟨j, -, hj⟩ := Finset.mem_biUnion.mp he
    have := mem_rowSet.mp hi
    have := mem_rowSet.mp hj
    omega))

theorem cores_cover : (Finset.univ : Finset (Fin 2)).biUnion coreSet = Finset.univ := by
  ext y
  simp only [Finset.mem_biUnion, Finset.mem_univ, true_and, iff_true]
  have h : (y 0).val < 32 := (y 0).isLt
  refine ⟨⟨(y 0).val % 2, Nat.mod_lt _ (by decide)⟩, ⟨(y 0).val / 2, by omega⟩, mem_rowSet.mpr ?_⟩
  show (y 0).val = 2 * ((y 0).val / 2) + (y 0).val % 2
  omega

/-! ## What the call carries -/

/-- A core's share of an operand, and a tile's of its core's. -/
abbrev coreShare (c : Fin 2) : PosShare TreeShare := leaf 1 fullShare c
abbrev tileShare (c : Fin 2) (i : Fin 16) : PosShare TreeShare := leaf 4 (coreShare c) i

/-- The operands' contents and the result's contents before the call. -/
structure Ops (F : FTy → Type) where
  M : S256.Idx → Elt F .f32
  S : S524288.Idx → Elt F .f32
  A : S16777216.Idx → Elt F .f32
  O : S32x16.Idx → Elt F .f32

variable (B : Dev nD → Ops F)

abbrev inPts (q : PosShare TreeShare) (d : Dev nD) : sProp 𝕄 :=
  iprop((mLoc d ↦{q} (B d).M) ∗ (sLoc d ↦{q} (B d).S) ∗ (aLoc d ↦{q} (B d).A))
abbrev outPts (I : Finset S32x16.Idx) (d : Dev nD) (f : S32x16.Idx → Elt F .f32) : sProp 𝕄 := oLoc d ↦[I]{fullShare} f
abbrev result (d : Dev nD) : S32x16.Idx → Elt F .f32 := outArr (B d).M (B d).S (B d).A

/-- The call takes the operands and the result, a core its share of them and its rows, a tile its share and its row; the rows come
    back written. -/
def P : (K (F := F)).Pay (nD := nD) (Val := Elt F) (Name := ℕ) (U := UU) where
  st := fun q d c => match q with | 0 => iprop(inPts B (coreShare (Fin.cast nCore_zero c)) d ∗ outPts (coreSet (Fin.cast nCore_zero c)) d (B d).O)
  dn := fun q d c => match q with | 0 => iprop(inPts B (coreShare (Fin.cast nCore_zero c)) d ∗ outPts (coreSet (Fin.cast nCore_zero c)) d (result B d))
  go := fun q d c i => match q with
    | 0 => iprop(inPts B (tileShare (Fin.cast nCore_zero c) (Fin.cast nSub_zero i)) d
        ∗ outPts (rowSet (Fin.cast nCore_zero c) (Fin.cast nSub_zero i)) d (B d).O)
  td := fun q d c i => match q with
    | 0 => iprop(inPts B (tileShare (Fin.cast nCore_zero c) (Fin.cast nSub_zero i)) d
        ∗ outPts (rowSet (Fin.cast nCore_zero c) (Fin.cast nSub_zero i)) d (result B d))
  x := fun _ _ => iprop(emp)

instance P_storable : (P (F := F) B).IsStorable where
  st q d c := match q with
    | 0 => (inferInstance : BI.Storable (upEmb : UEmb _ 𝕄) iprop(inPts B (coreShare (Fin.cast nCore_zero c)) d ∗ outPts (coreSet (Fin.cast nCore_zero c)) d (B d).O))
  dn q d c := match q with
    | 0 => (inferInstance : BI.Storable (upEmb : UEmb _ 𝕄) iprop(inPts B (coreShare (Fin.cast nCore_zero c)) d ∗ outPts (coreSet (Fin.cast nCore_zero c)) d (result B d)))
  go q d c i := match q with
    | 0 => (inferInstance : BI.Storable (upEmb : UEmb _ 𝕄) iprop(inPts B (tileShare (Fin.cast nCore_zero c) (Fin.cast nSub_zero i)) d
        ∗ outPts (rowSet (Fin.cast nCore_zero c) (Fin.cast nSub_zero i)) d (B d).O))
  td q d c i := match q with
    | 0 => (inferInstance : BI.Storable (upEmb : UEmb _ 𝕄) iprop(inPts B (tileShare (Fin.cast nCore_zero c) (Fin.cast nSub_zero i)) d
        ∗ outPts (rowSet (Fin.cast nCore_zero c) (Fin.cast nSub_zero i)) d (result B d)))

/-! ## The task -/

section Tile

variable (d : Dev nD) (L : grid2.Coords)

theorem cellsOf (sm : SemLoc sig) (h : sm.isScoped .scVector = true) :
    ((V d (cV L) (jV L), sm) : GSem nD τ sig) ∈ ownCells (V d (cV L) (jV L)) := mem_ownCells.mpr ⟨rfl, h⟩

theorem cell_ne {s t : SemLoc sig} (h : s ≠ t) : ((V d (cV L) (jV L), s) : GSem nD τ sig) ≠ (V d (cV L) (jV L), t) := fun e => h (congrArg Prod.snd e)

/-- The five DMA cells of a subcore's task, out of all its own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ semVal (cell4 d (cV L) (jV L)) 0
          ∗ bigSep ((((((ownCells (V d (cV L) (jV L))).erase (cell0 d (cV L) (jV L))).erase (cell1 d (cV L) (jV L))).erase (cell2 d (cV L) (jV L))).erase
              (cell3 d (cV L) (jV L))).erase (cell4 d (cV L) (jV L))) fun g => semVal g 0) := by
  unfold SparseCore.Cfg.ownSems0
  have e (x y : GSem nD τ sig) (s : Finset (GSem nD τ sig)) (h : y ≠ x) (hy : y ∈ s) : y ∈ s.erase x := Finset.mem_erase.mpr ⟨h, hy⟩
  have c0 := cellsOf d L (.dma cc2_scratch6.sem) (by decide)
  have c1 := cellsOf d L (.dma cc2_scratch7.sem) (by decide)
  have c2 := cellsOf d L (.dma cc2_scratch8.sem) (by decide)
  have c3 := cellsOf d L (.dma cc2_scoped0.sem) (by decide)
  have c4 := cellsOf d L (.dma cc2_scoped1.sem) (by decide)
  have n10 := cell_ne d L (show (SemLoc.dma cc2_scratch7.sem : SemLoc sig) ≠ .dma cc2_scratch6.sem by decide)
  have n20 := cell_ne d L (show (SemLoc.dma cc2_scratch8.sem : SemLoc sig) ≠ .dma cc2_scratch6.sem by decide)
  have n21 := cell_ne d L (show (SemLoc.dma cc2_scratch8.sem : SemLoc sig) ≠ .dma cc2_scratch7.sem by decide)
  have n30 := cell_ne d L (show (SemLoc.dma cc2_scoped0.sem : SemLoc sig) ≠ .dma cc2_scratch6.sem by decide)
  have n31 := cell_ne d L (show (SemLoc.dma cc2_scoped0.sem : SemLoc sig) ≠ .dma cc2_scratch7.sem by decide)
  have n32 := cell_ne d L (show (SemLoc.dma cc2_scoped0.sem : SemLoc sig) ≠ .dma cc2_scratch8.sem by decide)
  have n40 := cell_ne d L (show (SemLoc.dma cc2_scoped1.sem : SemLoc sig) ≠ .dma cc2_scratch6.sem by decide)
  have n41 := cell_ne d L (show (SemLoc.dma cc2_scoped1.sem : SemLoc sig) ≠ .dma cc2_scratch7.sem by decide)
  have n42 := cell_ne d L (show (SemLoc.dma cc2_scoped1.sem : SemLoc sig) ≠ .dma cc2_scratch8.sem by decide)
  have n43 := cell_ne d L (show (SemLoc.dma cc2_scoped1.sem : SemLoc sig) ≠ .dma cc2_scoped0.sem by decide)
  rw [SparseCore.bigSep_erase' c0, SparseCore.bigSep_erase' (e _ _ _ n10 c1), SparseCore.bigSep_erase' (e _ _ _ n21 (e _ _ _ n20 c2)),
    SparseCore.bigSep_erase' (e _ _ _ n32 (e _ _ _ n31 (e _ _ _ n30 c3))),
    SparseCore.bigSep_erase' (e _ _ _ n43 (e _ _ _ n42 (e _ _ _ n41 (e _ _ _ n40 c4))))]

abbrev ref (L : grid2.Coords) (b : Ref sig .scVector) : DevRef τ sig := (Proc.scVector (cV L) (jV L)).devRef b

theorem ref_ne {a b : Ref sig .scVector} (h : a ≠ b) : ref L a ≠ ref L b := fun e => absurd (Proc.devRef_injective _ e) h

/-- The six scratch buffers of a subcore's task, out of all its own. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f) ∗ (∃ f, (V d (cV L) (jV L)).loc cc2_scratch3 ↦{fullShare} f)
          ∗ (∃ f, (V d (cV L) (jV L)).loc cc2_scratch4 ↦{fullShare} f) ∗ (∃ f, (V d (cV L) (jV L)).loc cc2_scratch5 ↦{fullShare} f)
          ∗ bigSep (((((((ownRefs (τ := τ) (.scVector (cV L) (jV L))).erase (ref L cc2_scratch0)).erase (ref L cc2_scratch1)).erase (ref L cc2_scratch2)).erase
              (ref L cc2_scratch3)).erase (ref L cc2_scratch4)).erase (ref L cc2_scratch5))
              fun b => iprop(∃ f, ((d, b) : Loc nD τ sig) ↦{fullShare} f)) := by
  unfold SparseCore.Cfg.ownBufs
  have e (x y : DevRef τ sig) (s : Finset (DevRef τ sig)) (h : y ≠ x) (hy : y ∈ s) : y ∈ s.erase x := Finset.mem_erase.mpr ⟨h, hy⟩
  have c0 := SparseCore.Cfg.mem_ownRefs_of_owner (p := Proc.scVector (cV L) (jV L)) (b := ref L cc2_scratch0) rfl
  have c1 := SparseCore.Cfg.mem_ownRefs_of_owner (p := Proc.scVector (cV L) (jV L)) (b := ref L cc2_scratch1) rfl
  have c2 := SparseCore.Cfg.mem_ownRefs_of_owner (p := Proc.scVector (cV L) (jV L)) (b := ref L cc2_scratch2) rfl
  have c3 := SparseCore.Cfg.mem_ownRefs_of_owner (p := Proc.scVector (cV L) (jV L)) (b := ref L cc2_scratch3) rfl
  have c4 := SparseCore.Cfg.mem_ownRefs_of_owner (p := Proc.scVector (cV L) (jV L)) (b := ref L cc2_scratch4) rfl
  have c5 := SparseCore.Cfg.mem_ownRefs_of_owner (p := Proc.scVector (cV L) (jV L)) (b := ref L cc2_scratch5) rfl
  have n10 := ref_ne L (show (cc2_scratch1 : Ref sig .scVector) ≠ cc2_scratch0 by decide)
  have n20 := ref_ne L (show (cc2_scratch2 : Ref sig .scVector) ≠ cc2_scratch0 by decide)
  have n21 := ref_ne L (show (cc2_scratch2 : Ref sig .scVector) ≠ cc2_scratch1 by decide)
  have n30 := ref_ne L (show (cc2_scratch3 : Ref sig .scVector) ≠ cc2_scratch0 by decide)
  have n31 := ref_ne L (show (cc2_scratch3 : Ref sig .scVector) ≠ cc2_scratch1 by decide)
  have n32 := ref_ne L (show (cc2_scratch3 : Ref sig .scVector) ≠ cc2_scratch2 by decide)
  have n40 := ref_ne L (show (cc2_scratch4 : Ref sig .scVector) ≠ cc2_scratch0 by decide)
  have n41 := ref_ne L (show (cc2_scratch4 : Ref sig .scVector) ≠ cc2_scratch1 by decide)
  have n42 := ref_ne L (show (cc2_scratch4 : Ref sig .scVector) ≠ cc2_scratch2 by decide)
  have n43 := ref_ne L (show (cc2_scratch4 : Ref sig .scVector) ≠ cc2_scratch3 by decide)
  have n50 := ref_ne L (show (cc2_scratch5 : Ref sig .scVector) ≠ cc2_scratch0 by decide)
  have n51 := ref_ne L (show (cc2_scratch5 : Ref sig .scVector) ≠ cc2_scratch1 by decide)
  have n52 := ref_ne L (show (cc2_scratch5 : Ref sig .scVector) ≠ cc2_scratch2 by decide)
  have n53 := ref_ne L (show (cc2_scratch5 : Ref sig .scVector) ≠ cc2_scratch3 by decide)
  have n54 := ref_ne L (show (cc2_scratch5 : Ref sig .scVector) ≠ cc2_scratch4 by decide)
  refine (SparseCore.bigSep_erase' c0).trans ?_
  rw [SparseCore.bigSep_erase' (e _ _ _ n10 c1), SparseCore.bigSep_erase' (e _ _ _ n21 (e _ _ _ n20 c2)),
    SparseCore.bigSep_erase' (e _ _ _ n32 (e _ _ _ n31 (e _ _ _ n30 c3))),
    SparseCore.bigSep_erase' (e _ _ _ n43 (e _ _ _ n42 (e _ _ _ n41 (e _ _ _ n40 c4)))),
    SparseCore.bigSep_erase' (e _ _ _ n54 (e _ _ _ n53 (e _ _ _ n52 (e _ _ _ n51 (e _ _ _ n50 c5)))))]

/-- The operands and the row, in the body's spelling. -/
theorem pts_mV (q : PosShare TreeShare) (f : Buf (Elt F) (mLoc d)) :
    (mLoc d ↦{q} f : sProp 𝕄) = ((mV).view.loc (V d (cV L) (jV L)) ↦[(mV).view.set]{q} f) := by
  rw [show (mV).view.set = Finset.univ from View.set_whole _]
theorem pts_sV (q : PosShare TreeShare) (f : Buf (Elt F) (sLoc d)) :
    (sLoc d ↦{q} f : sProp 𝕄) = ((sV).view.loc (V d (cV L) (jV L)) ↦[(sV).view.set]{q} f) := by
  rw [show (sV).view.set = Finset.univ from View.set_whole _]
theorem pts_aV (q : PosShare TreeShare) (f : Buf (Elt F) (aLoc d)) :
    (aLoc d ↦{q} f : sProp 𝕄) = ((aV).view.loc (V d (cV L) (jV L)) ↦[(aV).view.set]{q} f) := by
  rw [show (aV).view.set = Finset.univ from View.set_whole _]
theorem pts_b0 (f) : ((V d (cV L) (jV L)).loc cc2_scratch0 ↦{fullShare} f : sProp 𝕄) = ((b0).view.loc (V d (cV L) (jV L)) ↦[(b0).view.set]{fullShare} f) := by
  rw [show (b0).view.set = Finset.univ from View.set_whole _]
theorem pts_b1 (f) : ((V d (cV L) (jV L)).loc cc2_scratch1 ↦{fullShare} f : sProp 𝕄) = ((b1).view.loc (V d (cV L) (jV L)) ↦[(b1).view.set]{fullShare} f) := by
  rw [show (b1).view.set = Finset.univ from View.set_whole _]
theorem pts_b2 (f) : ((V d (cV L) (jV L)).loc cc2_scratch2 ↦{fullShare} f : sProp 𝕄) = ((b2).view.loc (V d (cV L) (jV L)) ↦[(b2).view.set]{fullShare} f) := by
  rw [show (b2).view.set = Finset.univ from View.set_whole _]
theorem pts_b3 (f) : ((V d (cV L) (jV L)).loc cc2_scratch3 ↦{fullShare} f : sProp 𝕄) = ((b3).view.loc (V d (cV L) (jV L)) ↦[(b3).view.set]{fullShare} f) := by
  rw [show (b3).view.set = Finset.univ from View.set_whole _]
theorem pts_b4 (f) : ((V d (cV L) (jV L)).loc cc2_scratch4 ↦{fullShare} f : sProp 𝕄) = ((b4).view.loc (V d (cV L) (jV L)) ↦[(b4).view.set]{fullShare} f) := by
  rw [show (b4).view.set = Finset.univ from View.set_whole _]
theorem pts_b5 (f) : ((V d (cV L) (jV L)).loc cc2_scratch5 ↦{fullShare} f : sProp 𝕄) = ((b5).view.loc (V d (cV L) (jV L)) ↦[(b5).view.set]{fullShare} f) := by
  rw [show (b5).view.set = Finset.univ from View.set_whole _]

set_option maxHeartbeats 1000000 in
/-- The task, from what the call carries to its tile. -/
theorem tile_body (q : PosShare TreeShare) (hF : (K (F := F)).Facts) (O : CellTallies nD τ sig (HIx 1)) (W : Waits sig (HIx 1)) (hO : ∀ g, O g none = 0) :
    (iprop(levAts (K (F := F)).L (K (F := F)).lev ∗ emp
        ∗ (inPts B q d ∗ outPts (oRowK L).view.set d (B d).O)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc2_sc_kernel L mV (Memref.isWhole_whole _) sV (Memref.isWhole_whole _) aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1)
          fun _ => iprop((inPts B q d ∗ outPts (oRowK L).view.set d (result B d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  unfold inPts
  simp only [pts_mV d L, pts_sV d L, pts_aV d L, pts_b0 d L, pts_b1 d L, pts_b2 d L, pts_b3 d L, pts_b4 d L, pts_b5 d L]
  iintro ⟨#Hlv, -, ⟨⟨Hm, Hs, Ha⟩, Ho⟩, ⟨⟨%f0, H0⟩, ⟨%f1, H1⟩, ⟨%f2, H2⟩, ⟨%f3, H3⟩, ⟨%f4, H4⟩, ⟨%f5, H5⟩, Hbufs⟩, ⟨S0, S1, S2, S3, S4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame (wpE (defs₀ (F := F)) 𝒱₀ (V d (cV L) (jV L)) none) Set.univ)
  isplitr [Hbufs Hsems]
  · iapply (exec_core d L O W q (B d).M (B d).S (B d).A (B d).O f0 f1 f2 f3 f4 f5)
    isplitl [Hmw]; · iexact Hmw
    isplitl [Hm]; · iexact Hm
    isplitl [Hs]; · iexact Hs
    isplitl [Ha]; · iexact Ha
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    iexact HO
  iintro %r ⟨Hm, Hs, Ha, Ho, H0, H1, H2, H3, H4, H5, S0, S1, S2, S3, S4, HW⟩
  isplitl [Hm Hs Ha Ho]
  · isplitr [Ho]
    · isplitl [Hm]; · iexact Hm
      isplitl [Hs]; · iexact Hs
      iexact Ha
    iexact Ho
  isplitl [H0 H1 H2 H3 H4 H5 Hbufs]
  · isplitl [H0]; · iexact H0
    isplitl [H1]; · iexact H1
    isplitl [H2]; · iexact H2
    isplitl [H3]; · iexact H3
    isplitl [H4]; · iexact H4
    isplitl [H5]; · iexact H5
    iexact Hbufs
  isplitl [S0 S1 S2 S3 S4 Hsems]
  · isplitl [S0]; · iexact S0
    isplitl [S1]; · iexact S1
    isplitl [S2]; · iexact S2
    isplitl [S3]; · iexact S3
    isplitl [S4]; · iexact S4
    iexact Hsems
  iexact HW

/-! ## The obligation -/

theorem defs₀_vector (c : Fin τ.nSC) (s : Fin τ.nSub) :
    defs₀ (F := F) (.scVector c s) 2 ()
      = SparseCore.onTile hcore2 hsub2 (fun c s => cc2_sc_kernel (coordsV c s) mV (Memref.isWhole_whole _) sV (Memref.isWhole_whole _)
          aV (Memref.isWhole_whole _) oV (Memref.isWhole_whole _)
            b0 (Memref.isWhole_whole _) b1 (Memref.isWhole_whole _) b2 (Memref.isWhole_whole _) b3 (Memref.isWhole_whole _)
            b4 (Memref.isWhole_whole _) b5 (Memref.isWhole_whole _) cc2_scratch6 cc2_scratch7 cc2_scratch8 cc2_scoped0 cc2_scoped1) ⟨⟩ c s := rfl

theorem tileObl (hF : (K (F := F)).Facts) : (K (F := F)).TileObl (D (F := F)) 𝒱 (P B) v₀ 0 := by
  intro d c i O W hO _ _
  simp only [show (P B).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body B d (coordsV ⟨_, hci.1⟩ ⟨_, hci.2⟩) _ hF O W hO

end Tile

/-! ## The operands and the rows split and join -/

theorem shares1 {ℓ : Loc nD τ sig} (f : Buf (Elt F) ℓ) :
    (ℓ ↦{fullShare} f : sProp 𝕄) = bigSep Finset.univ fun c : Fin 2 => ℓ ↦{coreShare c} f := pointsTo_leaves _ f 1 fullShare
theorem shares4 {ℓ : Loc nD τ sig} (c : Fin 2) (f : Buf (Elt F) ℓ) :
    (ℓ ↦{coreShare c} f : sProp 𝕄) = bigSep Finset.univ fun i : Fin 16 => ℓ ↦{tileShare c i} f := pointsTo_leaves _ f 4 (coreShare c)

theorem in_cores (d : Dev nD) : inPts B fullShare d = bigSep Finset.univ fun c : Fin 2 => inPts B (coreShare c) d := by
  unfold inPts
  rw [bigSep_sep', bigSep_sep', shares1, shares1, shares1]
theorem in_tiles (c : Fin 2) (d : Dev nD) : inPts B (coreShare c) d = bigSep Finset.univ fun i : Fin 16 => inPts B (tileShare c i) d := by
  unfold inPts
  rw [bigSep_sep', bigSep_sep', shares4, shares4, shares4]
theorem out_cores (d : Dev nD) (f) : (outPts Finset.univ d f : sProp 𝕄) = bigSep Finset.univ fun c : Fin 2 => outPts (coreSet c) d f := by
  unfold outPts
  rw [← pointsTo_biUnion Finset.univ (ℓ := oLoc d) coreSet cores_disjoint, cores_cover]
theorem out_tiles (c : Fin 2) (d : Dev nD) (f) : (outPts (coreSet c) d f : sProp 𝕄) = bigSep Finset.univ fun i : Fin 16 => outPts (rowSet c i) d f := by
  unfold outPts
  rw [← pointsTo_biUnion Finset.univ (ℓ := oLoc d) (rowSet c) (rows_disjoint c)]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem tiles_eq (c : Fin 2) (d : Dev nD) (f) :
    (bigSep Finset.univ fun i : Fin 16 => iprop(inPts B (tileShare c i) d ∗ outPts (rowSet c i) d f)) = iprop(inPts B (coreShare c) d ∗ outPts (coreSet c) d f) := by
  rw [in_tiles, out_tiles]
  exact bigSep_sep' _ (fun i : Fin 16 => inPts B (tileShare c i) d) (fun i => outPts (rowSet c i) d f)

theorem vecSplit : (K (F := F)).VecSplit' (P B) 0 := by
  intro d c
  show iprop(inPts B (coreShare (Fin.cast nCore_zero c)) d ∗ outPts (coreSet (Fin.cast nCore_zero c)) d (B d).O) ⊢ |={Set.univ}=> iprop(
      (bigSep Finset.univ fun i : Fin ((K (F := F)).nSub 0) => iprop(inPts B (tileShare (Fin.cast nCore_zero c) (Fin.cast nSub_zero i)) d
        ∗ outPts (rowSet (Fin.cast nCore_zero c) (Fin.cast nSub_zero i)) d (B d).O))
      ∗ ((bigSep Finset.univ fun i : Fin ((K (F := F)).nSub 0) => iprop(inPts B (tileShare (Fin.cast nCore_zero c) (Fin.cast nSub_zero i)) d
        ∗ outPts (rowSet (Fin.cast nCore_zero c) (Fin.cast nSub_zero i)) d (result B d)))
        -∗ iprop(inPts B (coreShare (Fin.cast nCore_zero c)) d ∗ outPts (coreSet (Fin.cast nCore_zero c)) d (result B d))))
  rw [bigSep_tasks (F := F) (fun i => iprop(inPts B (tileShare (Fin.cast nCore_zero c) i) d ∗ outPts (rowSet (Fin.cast nCore_zero c) i) d (B d).O)),
    bigSep_tasks (F := F) (fun i => iprop(inPts B (tileShare (Fin.cast nCore_zero c) i) d ∗ outPts (rowSet (Fin.cast nCore_zero c) i) d (result B d))),
    tiles_eq, tiles_eq]
  iintro H; imodintro
  isplitl [H]; · iexact H
  iintro H; iexact H

/-- The call takes the operands and the result whole, -/
theorem st_eq (d : Dev nD) :
    (bigSep Finset.univ fun c : Fin ((K (F := F)).nCore 0) => (P B).st 0 d c) = iprop(inPts B fullShare d ∗ outPts Finset.univ d (B d).O) := by
  refine (bigSep_cores (F := F) (fun c => iprop(inPts B (coreShare c) d ∗ outPts (coreSet c) d (B d).O))).trans ?_
  rw [bigSep_sep', ← in_cores, ← out_cores]
/-- and hands them back whole, the result written. -/
theorem dn_eq (d : Dev nD) :
    (bigSep Finset.univ fun c : Fin ((K (F := F)).nCore 0) => (P B).dn 0 d c) = iprop(inPts B fullShare d ∗ outPts Finset.univ d (result B d)) := by
  refine (bigSep_cores (F := F) (fun c => iprop(inPts B (coreShare c) d ∗ outPts (coreSet c) d (result B d)))).trans ?_
  rw [bigSep_sep', ← in_cores, ← out_cores]

end Cert.Proof

end
-- ==== Proof.Main.lean ====
/-
  @main on the TensorCore: four groups of host operations around the two TensorCore calls and the SparseCore call, every
  array followed as a valuation from the launch's contents to the end, and the run of the whole program.
-/
module

public import proofs.«01_k».proof.Proof.Regions
public import proofs.«01_k».proof.Proof.Task
public import Idealize.ShloMosaic.Lib.Pipeline.Frame

@[expose] public section

noncomputable section

namespace Cert.Proof

open Cert.KernelIdeal Cert.KernelIdeal.Gen

open Idealize.ShloMosaic Idealize.ShloMosaic.TcCoe
open Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MM F

/-! ## The host operations -/

/-- Before the first call, -/
def opsA : List (HloOp τ sig (Elt F)) :=
  [ reshape main_arg1 main_v0 (rfl : (.i32 : EltTy) = .i32) shapeCasts_S16x128_S16x1x128,
    reshape main_arg0 main_v1 (rfl : (.i32 : EltTy) = .i32) shapeCasts_S16x128_S16x1x128 ]
/-- between the two TensorCore calls, -/
def opsB : List (HloOp τ sig (Elt F)) :=
  [ unary main_v2 main_v3 ((extractStridedSlice S1x1 ![0, 0] · slices_S8x128_S1x1_0_0) : (⟨S8x128, .f32⟩ : BufTy).Contents (Elt F) → (⟨S1x1, .f32⟩ : BufTy).Contents (Elt F)),
    reshape main_v3 main_v4 (rfl : (.f32 : EltTy) = .f32) shapeCasts_S1x1_S_,
    reshape main_arg1 main_v5 (rfl : (.i32 : EltTy) = .i32) shapeCasts_S16x128_S16x1x128,
    reshape main_arg0 main_v6 (rfl : (.i32 : EltTy) = .i32) shapeCasts_S16x128_S16x1x128 ]
/-- before the SparseCore call, -/
def opsC : List (HloOp τ sig (Elt F)) :=
  [ reshape main_v7_0 main_v8 (rfl : (.f32 : EltTy) = .f32) shapeCasts_S2x1x128_S256,
    reshape main_v7_1 main_v9 (rfl : (.f32 : EltTy) = .f32) shapeCasts_S2x128x2048_S524288,
    reshape main_arg3 main_v10 (rfl : (.f32 : EltTy) = .f32) shapeCasts_S4x16x128x2048_S16777216 ]
/-- and after it. -/
def opsD : List (HloOp τ sig (Elt F)) :=
  [ nullary main_cst (constant S_ .f32 0x00000000#32),
    binary main_v11 main_cst main_v12 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    binary main_v4 main_v12 main_v13 (addf : (⟨S_, .f32⟩ : BufTy).Contents (Elt F) → (⟨S_, .f32⟩ : BufTy).Contents (Elt F) → (⟨S_, .f32⟩ : BufTy).Contents (Elt F)),
    nullary main_cst_0 (constant S_ .f32 0x46000000#32),
    binary main_v13 main_cst_0 main_v14 (Host.divf : (⟨S_, .f32⟩ : BufTy).Contents (Elt F) → (⟨S_, .f32⟩ : BufTy).Contents (Elt F) → (⟨S_, .f32⟩ : BufTy).Contents (Elt F)) ]

theorem opsA_sub : (opsA : List (HloOp τ sig (Elt F))).Forall fun op => op.bufs ⊆ tcRefs τ sig :=
  ⟨reshape_bufs_sub .., reshape_bufs_sub ..⟩
theorem opsB_sub : (opsB : List (HloOp τ sig (Elt F))).Forall fun op => op.bufs ⊆ tcRefs τ sig :=
  ⟨unary_bufs_sub .., reshape_bufs_sub .., reshape_bufs_sub .., reshape_bufs_sub ..⟩
theorem opsC_sub : (opsC : List (HloOp τ sig (Elt F))).Forall fun op => op.bufs ⊆ tcRefs τ sig :=
  ⟨reshape_bufs_sub .., reshape_bufs_sub .., reshape_bufs_sub ..⟩
theorem opsD_sub : (opsD : List (HloOp τ sig (Elt F))).Forall fun op => op.bufs ⊆ tcRefs τ sig :=
  ⟨nullary_bufs_sub .., binary_bufs_sub .., binary_bufs_sub .., nullary_bufs_sub .., binary_bufs_sub ..⟩

theorem uc {ops : List (HloOp τ sig (Elt F))} (h : ops.Forall fun op => op.bufs ⊆ tcRefs τ sig) : ∀ op ∈ ops, op.bufs ⊆ Pipeline.ucRefs τ sig :=
  fun op ho => Pipeline.sub_ucRefs op (List.forall_iff_forall_mem.mp h op ho)
theorem fresh {ops : List (HloOp τ sig (Elt F))} (h : ops.Forall fun op => op.fresh = ∅) : ∀ op ∈ ops, op.fresh = ∅ := List.forall_iff_forall_mem.mp h

/-- A TensorCore call of @main. -/
abbrev call (p : Fin 2) : Prog (TpuEff nD τ sig (Elt F) (SparseCore.Sig (ΛP (F := F)) 1) .tc) PUnit :=
  Prog.lift (.customCall (SparseCore.inner (Pipeline.entry p)) ())

theorem main_eq (d : Dev nD) : main (F := F) d = (seq opsA >>= fun _ => call 0 >>= fun _ => seq opsB >>= fun _ => call 1 >>= fun _ => seq opsC >>= fun _ =>
    sc.run d 0 >>= fun _ => seq opsD >>= fun _ => pure ⟨⟩) := by
  simp only [main, opsA, opsB, opsC, opsD, call, seq, bind_assoc, pure_bind]

/-! ## The arrays, from the launch to the end -/

variable (m : (ℓ : Loc nD τ sig) → Buf (Elt F) ℓ) (ρ : Dev nD → PrngReg)

/-- The TensorCore's view of the valuations. -/
abbrev vals (W : Dev nD → Valuation τ sig (Elt F)) : Vals F := fun c b => W c b

def W0 (d : Dev nD) : Valuation τ sig (Elt F) := fun b => m (d, b)
def W1 (d : Dev nD) : Valuation τ sig (Elt F) := after opsA (W0 m d)
def W2 (d : Dev nD) : Valuation τ sig (Elt F) := Function.update (W1 m d) (main_v2 : DevRef τ sig) (partial_ (vals (W1 m)) d)
def W3 (d : Dev nD) : Valuation τ sig (Elt F) := after opsB (W2 m d)
def W4 (d : Dev nD) : Valuation τ sig (Elt F) :=
  Function.update (Function.update (W3 m d) (main_v7_0 : DevRef τ sig) (masks (vals (W3 m)) d)) (main_v7_1 : DevRef τ sig) (signs (vals (W3 m)) d)
def W5 (d : Dev nD) : Valuation τ sig (Elt F) := after opsC (W4 m d)
/-- The SparseCore call's operands and its result's contents before it. -/
def B (d : Dev nD) : Ops F where
  M := W5 m d (main_v8 : DevRef τ sig)
  S := W5 m d (main_v9 : DevRef τ sig)
  A := W5 m d (main_v10 : DevRef τ sig)
  O := W5 m d (main_v11 : DevRef τ sig)
def W6 (d : Dev nD) : Valuation τ sig (Elt F) := Function.update (W5 m d) (main_v11 : DevRef τ sig) (result (B m) d)
def W7 (d : Dev nD) : Valuation τ sig (Elt F) := after opsD (W6 m d)

/-! ## The calls' steps -/

/-- The arrays the SparseCore call takes, out of all. -/
abbrev S4 : Finset (DevRef τ sig) := {(main_v8 : DevRef τ sig), (main_v9 : DevRef τ sig), (main_v10 : DevRef τ sig), (main_v11 : DevRef τ sig)}

theorem mem_uc (b : Ref sig .tc) (h : ¬ b.isScoped) : (b : DevRef τ sig) ∈ Pipeline.ucRefs τ sig :=
  Finset.mem_filter.mpr ⟨devRef_mem_tcRefs b, h⟩

theorem S4_sub : S4 ⊆ Pipeline.ucRefs τ sig := by
  intro b hb
  simp only [S4, Finset.mem_insert, Finset.mem_singleton] at hb
  rcases hb with rfl | rfl | rfl | rfl <;> exact mem_uc _ (by decide)

theorem held_S4 (d : Dev nD) (W : Valuation τ sig (Elt F)) :
    (held (T d) S4 W : sProp 𝕄) = iprop((mLoc d ↦{fullShare} W (main_v8 : DevRef τ sig)) ∗ (sLoc d ↦{fullShare} W (main_v9 : DevRef τ sig))
      ∗ (aLoc d ↦{fullShare} W (main_v10 : DevRef τ sig)) ∗ oLoc d ↦{fullShare} W (main_v11 : DevRef τ sig)) := by
  unfold held S4
  rw [SparseCore.bigSep_insert' (by decide), SparseCore.bigSep_insert' (by decide), SparseCore.bigSep_insert' (by decide), bigSep_singleton]

/-- What the SparseCore call takes, out of all the arrays, -/
theorem call_takes (d : Dev nD) :
    (held (T d) (Pipeline.ucRefs τ sig) (W5 m d) : sProp 𝕄)
      ⊢ iprop((inPts (B m) fullShare d ∗ outPts Finset.univ d (B m d).O) ∗ held (T d) (Pipeline.ucRefs τ sig \ S4) (W5 m d)) := by
  rw [held_sub_split (T d) S4_sub, held_S4]
  unfold inPts outPts B
  iintro ⟨⟨H0, H1, H2, H3⟩, Hr⟩
  isplitr [Hr]; swap; · iexact Hr
  isplitr [H3]; swap; · iexact H3
  isplitl [H0]; · iexact H0
  isplitl [H1]; · iexact H1
  iexact H2

theorem W6_ne (d : Dev nD) (b : DevRef τ sig) (h : b ≠ (main_v11 : DevRef τ sig)) : W6 m d b = W5 m d b := Function.update_of_ne h _ _

/-- and what it gives back. -/
theorem call_gives (d : Dev nD) :
    (iprop((inPts (B m) fullShare d ∗ outPts Finset.univ d (result (B m) d)) ∗ held (T d) (Pipeline.ucRefs τ sig \ S4) (W5 m d)) : sProp 𝕄)
      ⊢ held (T d) (Pipeline.ucRefs τ sig) (W6 m d) := by
  rw [held_sub_split (T d) S4_sub, held_S4, W6_ne m d _ (devRef_ne_of_ne (by decide)), W6_ne m d _ (devRef_ne_of_ne (by decide)), W6_ne m d _ (devRef_ne_of_ne (by decide)),
    show W6 m d (main_v11 : DevRef τ sig) = result (B m) d from Function.update_self _ _ _,
    held_congr (T d) (V := W6 m d) (V' := W5 m d) (S := Pipeline.ucRefs τ sig \ S4) fun b hb => W6_ne m d b fun h =>
      (Finset.mem_sdiff.mp hb).2 (h ▸ by simp only [S4, Finset.mem_insert, Finset.mem_singleton, or_true])]
  unfold inPts outPts B
  iintro ⟨⟨⟨H0, H1, H2⟩, H3⟩, Hr⟩
  isplitr [Hr]; swap; · iexact Hr
  isplitl [H0]; · iexact H0
  isplitl [H1]; · iexact H1
  isplitl [H2]; · iexact H2
  iexact H3

/-- The pipelines' part of the launch's ghost state, at one device. -/
def G (d : Dev nD) : sProp 𝕄 :=
  iprop((bigSep Finset.univ fun p => Pipeline.cellsGhost (Pipeline.pin (pcfgs (F := F)) adm) EP p d) ∗ bigSep Finset.univ fun p => Pipeline.toksInit (Pipeline.pin (pcfgs (F := F)) adm) EP p d)

theorem G_eq (d : Dev nD) :
    G (F := F) d = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold G
  rw [show (Finset.univ : Finset (Fin 2)) = {0, 1} by decide, SparseCore.bigSep_insert' (by decide), bigSep_singleton, SparseCore.bigSep_insert' (by decide), bigSep_singleton]

theorem held_unscoped (d : Dev nD) (W : Dev nD → Valuation τ sig (Elt F)) :
    (unscopedBufs d (vals W d) : sProp 𝕄) = held (T d) (Pipeline.ucRefs τ sig) (W d) := Pipeline.unscopedBufs_held d (W d)

theorem held_launch (d : Dev nD) :
    (unscopedBufs d (fun b => m ((SparseCore.T d).loc b)) : sProp 𝕄) = held (T d) (Pipeline.ucRefs τ sig) (W0 m d) :=
  Pipeline.unscopedBufs_held d fun b => m (d, b)

/-- What the TensorCore holds of the handshakes beside its debts, before the SparseCore call. -/
def rest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : ((K (F := F)).tcSt EH d 0 : sProp 𝕄) = iprop(debts (F := F) d ∗ rest (F := F) d) := rfl

/-- A TensorCore call as a step of @main: its region, the arrays from `V` to `Vp`, the TensorCore's handshake state through it. -/
theorem wp_call {V Vp : Dev nD → Valuation τ sig (Elt F)} (p : Fin 2)
    (R : Pipeline.RegionSeg (pcfgs (F := F)) adm (pdats (vals V)) none defs₀ 𝒱₀ (K (F := F)).L (K (F := F)).lev p)
    (hpre : ∀ c, R.pre c = iprop(unscopedBufs c (vals V c) ∗ debts c)) (hpost : ∀ c, R.post c = iprop(unscopedBufs c (vals Vp c) ∗ debts c))
    (d : Dev nD) (Φ : PUnit → sProp 𝕄) :
    iprop((iprop(boundary (T d) ∗ (K (F := F)).tcSt EH d 0 ∗ held (T d) (Pipeline.ucRefs τ sig) (Vp d)) -∗ Φ ⟨⟩)
        ∗ boundary (T d) ∗ (K (F := F)).tcSt EH d 0 ∗ held (T d) (Pipeline.ucRefs τ sig) (V d)
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (call p) Φ := by
  have hR := Pipeline.RegionSeg.wp (pcfgs (F := F)) adm (pdats (vals V)) none cellOf_inj EP defs₀ 𝒱₀ (K (F := F)).L (K (F := F)).lev R d none
    (fun _ h => nomatch h) .ret Φ
  rw [hpre, hpost, held_unscoped, held_unscoped] at hR
  have hL := (K (F := F)).wp_liftProg (D (F := F)) 𝒱 (T d) Set.univ none (.op (.customCall (Pipeline.entry p) ()) .ret) Φ
  have h : (iprop((iprop(boundary (T d) ∗ (K (F := F)).tcSt EH d 0 ∗ held (T d) (Pipeline.ucRefs τ sig) (Vp d)) -∗ Φ ⟨⟩)
        ∗ boundary (T d) ∗ (K (F := F)).tcSt EH d 0 ∗ held (T d) (Pipeline.ucRefs τ sig) (V d)
        ∗ levAts (K (F := F)).L (K (F := F)).lev
        ∗ Pipeline.cellsGhost (Pipeline.pin (pcfgs (F := F)) adm) EP p d ∗ Pipeline.toksInit (Pipeline.pin (pcfgs (F := F)) adm) EP p d) : sProp 𝕄)
      ⊢ wp frame (wpE (D (F := F)) 𝒱 (T d) none) Set.univ (.op (.customCall (Pipeline.entry p) ()) .ret) Φ := by
    rw [tcSt_eq]
    iintro ⟨Hk, Hb, ⟨HO, Hst⟩, Hub, Hl, Hc, Ht⟩
    iapply hR
    isplitl [Hk Hst]
    · iintro ⟨Hb, Hub, HO⟩
      rw [wp_ret]; imodintro
      iapply Hk
      isplitl [Hb]; · iexact Hb
      isplitl [HO Hst]
      · isplitl [HO]; · iexact HO
        iexact Hst
      iexact Hub
    isplitl [Hb]; · iexact Hb
    isplitl [Hub HO]
    · isplitl [Hub]; · iexact Hub
      iexact HO
    isplitl [Hl]; · iexact Hl
    isplitl [Hc]; · iexact Hc
    iexact Ht
  exact BI.Entails.trans h hL

theorem opsA_fresh : (opsA : List (HloOp τ sig (Elt F))).Forall fun op => op.fresh = ∅ := ⟨rfl, rfl⟩
theorem opsB_fresh : (opsB : List (HloOp τ sig (Elt F))).Forall fun op => op.fresh = ∅ := ⟨rfl, rfl, rfl, rfl⟩
theorem opsC_fresh : (opsC : List (HloOp τ sig (Elt F))).Forall fun op => op.fresh = ∅ := ⟨rfl, rfl, rfl⟩
theorem opsD_fresh : (opsD : List (HloOp τ sig (Elt F))).Forall fun op => op.fresh = ∅ := ⟨rfl, rfl, rfl, rfl, rfl⟩

/-- The first call's region, from the arrays before it to the arrays after it; -/
def regA : Pipeline.RegionSeg (pcfgs (F := F)) adm (pdats (vals (W1 m))) none defs₀ 𝒱₀ (K (F := F)).L (K (F := F)).lev 0 :=
  reg0 (vals (W1 m)) (vals (W2 m)) (fun _ => Function.update_self _ _ _) (fun _ _ h => Function.update_of_ne (devRef_ne_of_ne h) _ _)
/-- the second's. -/
def regB : Pipeline.RegionSeg (pcfgs (F := F)) adm (pdats (vals (W3 m))) none defs₀ 𝒱₀ (K (F := F)).L (K (F := F)).lev 1 :=
  reg1 (vals (W3 m)) (vals (W4 m)) (fun _ => (Function.update_of_ne (devRef_ne_of_ne (by decide)) _ _).trans (Function.update_self _ _ _))
    (fun _ => Function.update_self _ _ _)
    (fun _ _ h h' => (Function.update_of_ne (devRef_ne_of_ne h') _ _).trans (Function.update_of_ne (devRef_ne_of_ne h) _ _))

/-- What @main leaves the claim: every array at its last contents. -/
abbrev FIN (d : Dev nD) : sProp 𝕄 := held (T d) (Pipeline.ucRefs τ sig) (W7 m d)

/-- The SparseCore call as a step of @main. -/
theorem wp_sc (κ : GSem nD τ sig → ℕ) (d : Dev nD) (Φ : PUnit → sProp 𝕄) :
    (iprop((K (F := F)).ctx EH (P (B m)) κ ∗ (K (F := F)).tcSt EH d 0 ∗ held (T d) (Pipeline.ucRefs τ sig) (W5 m d)
        ∗ (iprop((K (F := F)).tcSt EH d 1 ∗ held (T d) (Pipeline.ucRefs τ sig) (W6 m d)) -∗ Φ ⟨⟩)) : sProp 𝕄)
      ⊢ wp frame (wpE ((K (F := F)).defs (D (F := F))) 𝒱 (T d) none) Set.univ (sc.run d 0) Φ := by
  have hW := (K (F := F)).wp_run (D (F := F)) 𝒱 (EH := EH) (P := P (B m)) κ d 0 (Φ := Φ)
  rw [st_eq (B m) d, dn_eq (B m) d] at hW
  iintro ⟨Hctx, Hst, Hh, Hk⟩
  ihave H := (call_takes m d) $$ Hh
  icases H with ⟨Hin, Hrest⟩
  iapply hW
  isplitl [Hctx]; · iexact Hctx
  isplitl [Hst]; · iexact Hst
  isplitl [Hin]; · iexact Hin
  iintro ⟨Hst, Hout⟩
  iapply Hk
  isplitl [Hst]; · iexact Hst
  iapply (call_gives m d)
  isplitl [Hout] <;> iassumption

theorem hmain (κ : GSem nD τ sig → ℕ) (d : Dev nD) :
    iprop((K (F := F)).ctx EH (P (B m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, G_eq, held_launch]
  iintro ⟨#Hctx, Hst, ⟨Hb, Hheld, Hts, -⟩, ⟨Hc0, Hc1⟩, Ht0, Ht1⟩
  ihave #Hlev := (SparseCore.Cfg.ctx_levAts (K := K (F := F)) κ) $$ Hctx
  iapply (wp_seq 𝒱 none Set.univ d (Pipeline.ucRefs τ sig) _ opsA (uc opsA_sub) (fresh opsA_fresh) (W0 m d)) $$ [Hb Hheld]
  · isplitl [Hb] <;> iassumption
  iintro ⟨Hb, Hheld⟩
  rw [wp_bind]
  iapply (wp_call 0 (regA m) (fun _ => rfl) (fun _ => rfl) d _)
  isplitr [Hb Hst Hheld Hc0 Ht0]; swap
  · isplitl [Hb]; · iexact Hb
    isplitl [Hst]; · iexact Hst
    isplitl [Hheld]; · iexact Hheld
    isplitr; · iexact Hlev
    isplitl [Hc0]; · iexact Hc0
    iexact Ht0
  iintro ⟨Hb, Hst, Hheld⟩
  iapply (wp_seq 𝒱 none Set.univ d (Pipeline.ucRefs τ sig) _ opsB (uc opsB_sub) (fresh opsB_fresh) (W2 m d)) $$ [Hb Hheld]
  · isplitl [Hb] <;> iassumption
  iintro ⟨Hb, Hheld⟩
  rw [wp_bind]
  iapply (wp_call 1 (regB m) (fun _ => rfl) (fun _ => rfl) d _)
  isplitr [Hb Hst Hheld Hc1 Ht1]; swap
  · isplitl [Hb]; · iexact Hb
    isplitl [Hst]; · iexact Hst
    isplitl [Hheld]; · iexact Hheld
    isplitr; · iexact Hlev
    isplitl [Hc1]; · iexact Hc1
    iexact Ht1
  iintro ⟨Hb, Hst, Hheld⟩
  iapply (wp_seq 𝒱 none Set.univ d (Pipeline.ucRefs τ sig) _ opsC (uc opsC_sub) (fresh opsC_fresh) (W4 m d)) $$ [Hb Hheld]
  · isplitl [Hb] <;> iassumption
  iintro ⟨Hb, Hheld⟩
  rw [wp_bind]
  iapply (wp_sc m κ d _)
  isplitr; · iexact Hctx
  isplitl [Hst]; · iexact Hst
  isplitl [Hheld]; · iexact Hheld
  iintro ⟨Hst, Hheld⟩
  iapply (wp_seq 𝒱 none Set.univ d (Pipeline.ucRefs τ sig) _ opsD (uc opsD_sub) (fresh opsD_fresh) (W6 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

end Cert.Proof

end
-- ==== Proof.Run.lean ====
/-
  The run of the whole program: the launch's ghost state, what the arrays hold at the end, and the claims' first half — every
  argument at its launch contents, the result at the last valuation's, every semaphore at zero.
-/
module

public import proofs.«01_k».proof.Proof.Main
public import Idealize.ShloMosaic.Lib.Pipeline.Sound

@[expose] public section

noncomputable section

namespace Cert.Proof

open Cert.KernelIdeal Cert.KernelIdeal.Gen

open Idealize.ShloMosaic Idealize.ShloMosaic.TcCoe
open Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MM F

variable (m : (ℓ : Loc nD τ sig) → Buf (Elt F) ℓ) (ρ : Dev nD → PrngReg)

/-! ## The launch's ghost state -/

/-- The handshakes' rounds, and beside them the two pipelines' cells and tokens. -/
def u₀ : UU := (initOf (K (F := F)).hsCells (K (F := F)).hsToks,
  (initOf (Pipeline.cells (nD := nD) (τ := τ) (Pipeline.pin (pcfgs (F := F)) adm) cellOf_inj)
    (Pipeline.launchToks (nD := nD) (τ := τ) (Pipeline.pin (pcfgs (F := F)) adm) cellOf_inj), 1))

theorem emps {I : Type} (s : Finset I) : (bigSep s fun _ => iprop(emp)) = (iprop(emp) : sProp 𝕄) := bigSep_emp_const s

theorem G_all :
    (bigSep Finset.univ (G (F := F)) : sProp 𝕄)
      = iprop((bigSep Finset.univ fun c : Dev nD => bigSep Finset.univ fun p => Pipeline.cellsGhost (Pipeline.pin (pcfgs (F := F)) adm) EP p c)
        ∗ bigSep Finset.univ fun c : Dev nD => bigSep Finset.univ fun p => Pipeline.toksInit (Pipeline.pin (pcfgs (F := F)) adm) EP p c) := by
  unfold G; rw [bigSep_sep']

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (B m)).x q thr) := by
  unfold u₀
  iintro Hu
  ihave H := (ownU_pair _ _) $$ Hu
  icases H with ⟨HH, HR⟩
  ihave H := (own_pair_emb embR _ _) $$ HR
  icases H with ⟨HR, -⟩
  imod (Pipeline.fund_ghost (Pipeline.pin (pcfgs (F := F)) adm) EP cellOf_inj) $$ HR with ⟨Hc, Ht⟩
  imodintro
  isplitl [HH]; · iexact HH
  isplitl [Hc Ht]
  · rw [G_all]; isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## What the arrays hold at the end -/

/-- Every unscoped array of device `d` at the last valuation. -/
def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  have h : ∀ b : DevRef τ sig, b ∈ Pipeline.ucRefs τ sig → (iprop(FIN m d ∗ SI s') : sProp 𝕄) ⊢ (⌜s'.mem.mem (d, b) = W7 m d b⌝ : sProp 𝕄) := by
    intro b hb
    rw [show FIN m d = iprop(held (T d) {b} (W7 m d) ∗ held (T d) (Pipeline.ucRefs τ sig \ {b}) (W7 m d)) from held_sub_split (T d) (Finset.singleton_subset_iff.mpr hb) _]
    unfold held
    rw [bigSep_singleton]
    iintro ⟨⟨Hx, -⟩, HSI⟩
    ihave H := (SI_pointsTo_agree (st := s') (ℓ := (d, b)) (I := Finset.univ) (q := fullShare) (f := W7 m d b)) $$ [HSI Hx]
    · isplitl [HSI] <;> iassumption
    icases H with %hx
    ipureintro; exact funext fun i => hx i (Finset.mem_univ i)
  have h₁ : (iprop(FIN m d ∗ SI s') : sProp 𝕄) ⊢ iprop(∀ b : {b // b ∈ Pipeline.ucRefs τ sig}, ⌜s'.mem.mem (d, b.1) = W7 m d b.1⌝) :=
    forall_intro fun b => h b.1 b.2
  have h₂ : (iprop(∀ b : {b // b ∈ Pipeline.ucRefs τ sig}, ⌜s'.mem.mem (d, b.1) = W7 m d b.1⌝) : sProp 𝕄)
      ⊢ (⌜∀ b : {b // b ∈ Pipeline.ucRefs τ sig}, s'.mem.mem (d, b.1) = W7 m d b.1⌝ : sProp 𝕄) := pure_forall.2
  exact BI.Entails.trans h₁ (BI.Entails.trans h₂ (pure_mono fun h b hb => h ⟨b, hb⟩))

theorem W7_arg (d : Dev nD) (b : Ref sig .tc) (h : b ∈ ([main_arg0, main_arg1, main_arg2, main_arg3, main_arg4] : List (Ref sig .tc))) :
    W7 m d (b : DevRef τ sig) = m ((SparseCore.T d).loc b) := by
  simp only [List.mem_cons, List.not_mem_nil, or_false] at h
  rcases h with rfl | rfl | rfl | rfl | rfl <;> rfl

/-! ## The run -/

def QC : PUnit × MemSt nD τ sig (Elt F) → Prop := fun r => (∀ d : Dev nD, ∀ b ∈ Pipeline.ucRefs τ sig, r.2.mem (d, b) = W7 m d b) ∧ r.2.sem = fun _ => 0

theorem run_all : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (B m)) (A := ∅) facts v₀
    (fun q hq => match q with | 0 => nomatch hq)
    (fun q _ => match q with | 0 => tileObl (B m) facts)
    (fun q _ => match q with | 0 => SparseCore.Cfg.VecSplit.of_plain (vecSplit (B m)))
    m ρ main G (FIN m) (u₀ (F := F)) (sep_elim_left.trans (hu₀ m)) (hmain m ρ) (fq m) (hfin m) (QC m) (fun _ h hz => ⟨h, hz⟩)

end Cert.Proof

end
-- ==== Proof.Ref.lean ====
/-
  The reference's run. It is host code on the one TensorCore: a straight line of array operations, three of them inside
  called functions. The library's `run_seq` gives every buffer after the line, read here stage by stage.
-/
module

public import proofs.«01_k».proof.Defs
public import Idealize.ShloMosaic.Lib.StableHlo.Run
public import proofs.«01_k».proof.Proof.Gen.ReferenceIdeal

@[expose] public section

noncomputable section

namespace Cert.Proof.R

open Idealize.ShloMosaic Idealize.ShloMosaic.TcCoe Idealize.ShloMosaic.StableHlo Idealize.SL.Sem
open Cert.ReferenceIdeal Cert.ReferenceIdeal.Gen

variable {F : FTy → Type} [FloatOps F]

/-- An array's contents. -/
abbrev Arr (F : FTy → Type) (S : Shape) (e : EltTy) := (⟨S, e⟩ : BufTy).Contents (Elt F)

/-- First to last: the table of matches, which values occur, and where each first occurs. -/
abbrev opsPresent : List (HloOp τ sig (Elt F)) :=
  [ unary main_arg1 main_v0 (broadcastInDim S16x128x1 ![0, 1] bcast_S16x128_S16x128x1_0_1 : Arr F S16x128 .i32 → Arr F S16x128x1 .i32),
    nullary main_v1 (iotaInDim S128 32 0),
    unary main_v1 main_v2 (broadcastInDim S1x1x128 ![2] bcast_S128_S1x1x128_2 : Arr F S128 .i32 → Arr F S1x1x128 .i32),
    unary main_v0 main_v3 (broadcastInDim S16x128x128 ![0, 1, 2] bcast_S16x128x1_S16x128x128_0_1_2 : Arr F S16x128x1 .i32 → Arr F S16x128x128 .i32),
    unary main_v2 main_v4 (broadcastInDim S16x128x128 ![0, 1, 2] bcast_S1x1x128_S16x128x128_0_1_2 : Arr F S1x1x128 .i32 → Arr F S16x128x128 .i32),
    binary main_v3 main_v4 main_v5 (cmpi .eq : Arr F S16x128x128 .i32 → Arr F S16x128x128 .i32 → Arr F S16x128x128 .i1),
    nullary main_c (constantI S_ 1 0#1),
    binary main_v5 main_c main_v6 ((fun x v => Host.reduce IntOp.ori x v reducesTo_S16x128x128_S16x128_d1 h_S_) : Arr F S16x128x128 .i1 → Arr F S_ .i1 → Arr F S16x128 .i1),
    TRef.nullary main_call0.v0 (iotaInDim S16x128x128 32 1),
    TRef.nullary main_call0.c (constantI S_ 1 0#1),
    TRef.nullary main_call0.c_0 (constantI S_ 32 0#32),
    TRef.quaternary (.of main_v5) main_call0.v0 main_call0.c main_call0.c_0 main_call0.v1_0 (fun x y u v j => (Host.reduce2 reducer_argmax_i1_i32 x y u v reducesTo_S16x128x128_S16x128_d1 h_S_ j).1),
    TRef.quaternary (.of main_v5) main_call0.v0 main_call0.c main_call0.c_0 main_call0.v1_1 (fun x y u v j => (Host.reduce2 reducer_argmax_i1_i32 x y u v reducesTo_S16x128x128_S16x128_d1 h_S_ j).2) ]

/-- First to last: the object index at each first occurrence. -/
abbrev opsObj : List (HloOp τ sig (Elt F)) :=
  [ TRef.nullary main_call1.c (constantI S_ 32 0#32),
    TRef.unary main_call1.c main_call1.v0 (broadcastInDim S16x128 ![] bcast_S_S16x128),
    TRef.binary (.of main_v7) main_call1.v0 main_call1.v1 (cmpi .slt),
    TRef.nullary main_call1.c_0 (constantI S_ 32 128#32),
    TRef.unary main_call1.c_0 main_call1.v2 (broadcastInDim S16x128 ![] bcast_S_S16x128),
    TRef.binary (.of main_v7) main_call1.v2 main_call1.v3 addi,
    TRef.ternary main_call1.v1 main_call1.v3 (.of main_v7) main_call1.v4 select,
    TRef.reshape main_call1.v4 main_call1.v5 (rfl : (.i32 : EltTy) = .i32) shapeCasts_S16x128_S16x128x1,
    TRef.nullary main_call1.c_1 (constantI S1 32 127#32),
    TRef.nullary main_call1.c_2 (constantI S_ 32 0#32),
    TRef.unary main_call1.c_2 main_call1.v6 (broadcastInDim S16x128x1 ![] bcast_S_S16x128x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16x128x1 ![0, 1, 2] bcast_S1x1x1_S16x128x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16x128x1_S16x128_d2 h_S_),
    TRef.binary (.of main_arg0) main_call1.v5 main_call1.v13 (fun x i => Host.gather gather_S16x128_S16x128x1_S16x128_n_1_0_0_1_2_11 x i),
    TRef.nullary main_call1.c_4 (constantI S_ 32 2147483648#32),
    TRef.unary main_call1.c_4 main_call1.v14 (broadcastInDim S16x128 ![] bcast_S_S16x128),
    TRef.ternary main_call1.v12 main_call1.v13 main_call1.v14 main_call1.v15 select ]

/-- First to last: the row of binary marks of that object. -/
abbrev opsSyb : List (HloOp τ sig (Elt F)) :=
  [ nullary main_v9 (iotaInDim S16 32 0),
    unary main_v9 main_v10 (broadcastInDim S16x1 ![0] bcast_S16_S16x1_0 : Arr F S16 .i32 → Arr F S16x1 .i32),
    nullary main_c_0 (constantI S_ 32 0#32),
    unary main_c_0 main_v11 (broadcastInDim S16x1 ![] bcast_S_S16x1 : Arr F S_ .i32 → Arr F S16x1 .i32),
    binary main_v10 main_v11 main_v12 (cmpi .slt : Arr F S16x1 .i32 → Arr F S16x1 .i32 → Arr F S16x1 .i1),
    nullary main_c_1 (constantI S_ 32 16#32),
    unary main_c_1 main_v13 (broadcastInDim S16x1 ![] bcast_S_S16x1 : Arr F S_ .i32 → Arr F S16x1 .i32),
    binary main_v10 main_v13 main_v14 (addi : Arr F S16x1 .i32 → Arr F S16x1 .i32 → Arr F S16x1 .i32),
    ternary main_v12 main_v14 main_v10 main_v15 (select : Arr F S16x1 .i1 → Arr F S16x1 .i32 → Arr F S16x1 .i32 → Arr F S16x1 .i32),
    nullary main_c_2 (constantI S_ 32 0#32),
    unary main_c_2 main_v16 (broadcastInDim S16x128 ![] bcast_S_S16x128 : Arr F S_ .i32 → Arr F S16x128 .i32),
    binary main_v8 main_v16 main_v17 (cmpi .slt : Arr F S16x128 .i32 → Arr F S16x128 .i32 → Arr F S16x128 .i1),
    nullary main_c_3 (constantI S_ 32 128#32),
    unary main_c_3 main_v18 (broadcastInDim S16x128 ![] bcast_S_S16x128 : Arr F S_ .i32 → Arr F S16x128 .i32),
    binary main_v8 main_v18 main_v19 (addi : Arr F S16x128 .i32 → Arr F S16x128 .i32 → Arr F S16x128 .i32),
    ternary main_v17 main_v19 main_v8 main_v20 (select : Arr F S16x128 .i1 → Arr F S16x128 .i32 → Arr F S16x128 .i32 → Arr F S16x128 .i32),
    unary main_v15 main_v21 (broadcastInDim S16x128 ![0, 1] bcast_S16x1_S16x128_0_1 : Arr F S16x1 .i32 → Arr F S16x128 .i32),
    unary main_v21 main_v22 (broadcastInDim S16x128x1 ![0, 1] bcast_S16x128_S16x128x1_0_1 : Arr F S16x128 .i32 → Arr F S16x128x1 .i32),
    unary main_v20 main_v23 (broadcastInDim S16x128x1 ![0, 1] bcast_S16x128_S16x128x1_0_1 : Arr F S16x128 .i32 → Arr F S16x128x1 .i32),
    binary main_v22 main_v23 main_v24 ((fun a b => concatenate S16x128x2 2 [⟨S16x128x1, a⟩, ⟨S16x128x1, b⟩] concatenates_S16x128x1_S16x128x1_S16x128x2_d2) : Arr F S16x128x1 .i32 → Arr F S16x128x1 .i32 → Arr F S16x128x2 .i32),
    binary main_arg2 main_v24 main_v25 ((fun x i => Host.gather gather_S16x128x2048_S16x128x2_S16x128x2048_2_01_n_n_01_2_112048 x i) : Arr F S16x128x2048 .i32 → Arr F S16x128x2 .i32 → Arr F S16x128x2048 .i32) ]

/-- First to last: the attention row at the first occurrence. -/
abbrev opsAtt : List (HloOp τ sig (Elt F)) :=
  [ unary main_v7 main_v26 (broadcastInDim S1x16x128x1 ![1, 2] bcast_S16x128_S1x16x128x1_1_2 : Arr F S16x128 .i32 → Arr F S1x16x128x1 .i32),
    TRef.nullary main_call2.c (constantI S_ 32 0#32),
    TRef.unary main_call2.c main_call2.v0 (broadcastInDim S1x16x128x1 ![] bcast_S_S1x16x128x1),
    TRef.binary (.of main_v26) main_call2.v0 main_call2.v1 (cmpi .slt),
    TRef.nullary main_call2.c_0 (constantI S_ 32 128#32),
    TRef.unary main_call2.c_0 main_call2.v2 (broadcastInDim S1x16x128x1 ![] bcast_S_S1x16x128x1),
    TRef.binary (.of main_v26) main_call2.v2 main_call2.v3 addi,
    TRef.ternary main_call2.v1 main_call2.v3 (.of main_v26) main_call2.v4 select,
    TRef.reshape main_call2.v4 main_call2.v5 (rfl : (.i32 : EltTy) = .i32) shapeCasts_S1x16x128x1_S16x128x1,
    TRef.nullary main_call2.c_1 (constantI S1 32 127#32),
    TRef.nullary main_call2.c_2 (constantI S_ 32 0#32),
    TRef.unary main_call2.c_2 main_call2.v6 (broadcastInDim S16x128x1 ![] bcast_S_S16x128x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S16x128x1 ![0, 1, 2] bcast_S1x1x1_S16x128x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x128x1_S16x128_d2 h_S_),
    TRef.binary (.of main_arg3) main_call2.v5 main_call2.v13 (fun x i => Host.gather gather_S4x16x128x2048_S16x128x1_S4x16x128x2048_03_2_1_0_2_2_4112048 x i),
    TRef.unary main_call2.v12 main_call2.v14 (broadcastInDim S4x16x128x2048 ![1, 2] bcast_S16x128_S4x16x128x2048_1_2),
    TRef.nullary main_call2.cst (constant S_ .f32 0x7FC00000#32),
    TRef.unary main_call2.cst main_call2.v15 (broadcastInDim S4x16x128x2048 ![] bcast_S_S4x16x128x2048),
    TRef.ternary main_call2.v14 main_call2.v13 main_call2.v15 main_call2.v16 select ]

/-- First to last: the hinge loss and its mean. -/
abbrev opsLoss : List (HloOp τ sig (Elt F)) :=
  [ nullary main_c_4 (constantI S_ 32 0#32),
    unary main_c_4 main_v28 (broadcastInDim S16x128x2048 ![] bcast_S_S16x128x2048 : Arr F S_ .i32 → Arr F S16x128x2048 .i32),
    binary main_v25 main_v28 main_v29 (cmpi .sgt : Arr F S16x128x2048 .i32 → Arr F S16x128x2048 .i32 → Arr F S16x128x2048 .i1),
    unary main_v29 main_v30 (uitofp .f32 : Arr F S16x128x2048 .i1 → Arr F S16x128x2048 .f32),
    unary main_v30 main_v31 (broadcastInDim S1x16x128x2048 ![1, 2, 3] bcast_S16x128x2048_S1x16x128x2048_1_2_3 : Arr F S16x128x2048 .f32 → Arr F S1x16x128x2048 .f32),
    nullary main_c_5 (constantI S_ 32 0#32),
    unary main_c_5 main_v32 (broadcastInDim S16x128x2048 ![] bcast_S_S16x128x2048 : Arr F S_ .i32 → Arr F S16x128x2048 .i32),
    binary main_v25 main_v32 main_v33 (cmpi .eq : Arr F S16x128x2048 .i32 → Arr F S16x128x2048 .i32 → Arr F S16x128x2048 .i1),
    unary main_v33 main_v34 (uitofp .f32 : Arr F S16x128x2048 .i1 → Arr F S16x128x2048 .f32),
    unary main_v34 main_v35 (broadcastInDim S1x16x128x2048 ![1, 2, 3] bcast_S16x128x2048_S1x16x128x2048_1_2_3 : Arr F S16x128x2048 .f32 → Arr F S1x16x128x2048 .f32),
    unary main_v31 main_v36 (broadcastInDim S4x16x128x2048 ![0, 1, 2, 3] bcast_S1x16x128x2048_S4x16x128x2048_0_1_2_3 : Arr F S1x16x128x2048 .f32 → Arr F S4x16x128x2048 .f32),
    binary main_v27 main_v36 main_v37 (mulf : Arr F S4x16x128x2048 .f32 → Arr F S4x16x128x2048 .f32 → Arr F S4x16x128x2048 .f32),
    nullary main_cst (constant S_ .f32 0x00000000#32),
    binary main_v37 main_cst main_v38 ((fun x v => Host.reduceAdd x v reducesTo_S4x16x128x2048_S4x16x128_d3 h_S_) : Arr F S4x16x128x2048 .f32 → Arr F S_ .f32 → Arr F S4x16x128 .f32),
    unary main_v35 main_v39 (broadcastInDim S4x16x128x2048 ![0, 1, 2, 3] bcast_S1x16x128x2048_S4x16x128x2048_0_1_2_3 : Arr F S1x16x128x2048 .f32 → Arr F S4x16x128x2048 .f32),
    binary main_v27 main_v39 main_v40 (mulf : Arr F S4x16x128x2048 .f32 → Arr F S4x16x128x2048 .f32 → Arr F S4x16x128x2048 .f32),
    nullary main_cst_6 (constant S_ .f32 0x00000000#32),
    binary main_v40 main_cst_6 main_v41 ((fun x v => Host.reduceAdd x v reducesTo_S4x16x128x2048_S4x16x128_d3 h_S_) : Arr F S4x16x128x2048 .f32 → Arr F S_ .f32 → Arr F S4x16x128 .f32),
    binary main_v41 main_v38 main_v42 (subf : Arr F S4x16x128 .f32 → Arr F S4x16x128 .f32 → Arr F S4x16x128 .f32),
    nullary main_cst_7 (constant S_ .f32 0x3F19999A#32),
    unary main_cst_7 main_v43 (broadcastInDim S4x16x128 ![] bcast_S_S4x16x128 : Arr F S_ .f32 → Arr F S4x16x128 .f32),
    binary main_v42 main_v43 main_v44 (addf : Arr F S4x16x128 .f32 → Arr F S4x16x128 .f32 → Arr F S4x16x128 .f32),
    nullary main_cst_8 (constant S_ .f32 0x00000000#32),
    unary main_cst_8 main_v45 (broadcastInDim S4x16x128 ![] bcast_S_S4x16x128 : Arr F S_ .f32 → Arr F S4x16x128 .f32),
    binary main_v44 main_v45 main_v46 (maximumf : Arr F S4x16x128 .f32 → Arr F S4x16x128 .f32 → Arr F S4x16x128 .f32),
    unary main_v6 main_v47 (broadcastInDim S1x16x128 ![1, 2] bcast_S16x128_S1x16x128_1_2 : Arr F S16x128 .i1 → Arr F S1x16x128 .i1),
    unary main_v47 main_v48 (uitofp .f32 : Arr F S1x16x128 .i1 → Arr F S1x16x128 .f32),
    unary main_v48 main_v49 (broadcastInDim S4x16x128 ![0, 1, 2] bcast_S1x16x128_S4x16x128_0_1_2 : Arr F S1x16x128 .f32 → Arr F S4x16x128 .f32),
    binary main_v46 main_v49 main_v50 (mulf : Arr F S4x16x128 .f32 → Arr F S4x16x128 .f32 → Arr F S4x16x128 .f32),
    nullary main_cst_9 (constant S_ .f32 0x00000000#32),
    binary main_v50 main_cst_9 main_v51 ((fun x v => Host.reduceAdd x v reducesTo_S4x16x128_S_d0_1_2 h_S_) : Arr F S4x16x128 .f32 → Arr F S_ .f32 → Arr F S_ .f32),
    unary main_v6 main_v52 ((extui 32 · natLt_1_32) : Arr F S16x128 .i1 → Arr F S16x128 .i32),
    nullary main_c_10 (constantI S_ 32 0#32),
    binary main_v52 main_c_10 main_v53 ((fun x v => Host.reduce IntOp.addi x v reducesTo_S16x128_S_d0_1 h_S_) : Arr F S16x128 .i32 → Arr F S_ .i32 → Arr F S_ .i32),
    unary main_v53 main_v54 (sitofp .f32 : Arr F S_ .i32 → Arr F S_ .f32),
    nullary main_cst_11 (constant S_ .f32 0x40800000#32),
    binary main_cst_11 main_v54 main_v55 (mulf : Arr F S_ .f32 → Arr F S_ .f32 → Arr F S_ .f32),
    nullary main_cst_12 (constant S_ .f32 0x46000000#32),
    binary main_cst_12 main_v55 main_v56 (subf : Arr F S_ .f32 → Arr F S_ .f32 → Arr F S_ .f32),
    nullary main_cst_13 (constant S_ .f32 0x3F19999A#32),
    binary main_v56 main_cst_13 main_v57 (mulf : Arr F S_ .f32 → Arr F S_ .f32 → Arr F S_ .f32),
    binary main_v51 main_v57 main_v58 (addf : Arr F S_ .f32 → Arr F S_ .f32 → Arr F S_ .f32),
    nullary main_cst_14 (constant S_ .f32 0x46000000#32),
    binary main_v58 main_cst_14 main_v59 (Host.divf : Arr F S_ .f32 → Arr F S_ .f32 → Arr F S_ .f32) ]

/-- The whole line. -/
abbrev ops : List (HloOp τ sig (Elt F)) := opsPresent ++ (opsObj ++ (opsSyb ++ (opsAtt ++ opsLoss)))

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- The line's operations touch device memory only. -/
theorem ops_sub : (ops : List (HloOp τ sig (Elt F))).Forall fun op => op.bufs ⊆ tcRefs τ sig := by
  simp only [ops, List.cons_append, List.nil_append, List.Forall, nullary_bufs_sub, unary_bufs_sub, binary_bufs_sub,
    ternary_bufs_sub, quaternary_bufs_sub, reshape_bufs_sub, and_self]

/-- Every buffer at the end of the run is what the line leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxHeartbeats 2000000 in
/-- The arguments are never written. -/
theorem arg_eq (V : Valuation τ sig (Elt F)) (b : Ref sig .tc) (h : b ∈ [main_arg0, main_arg1, main_arg2, main_arg3, main_arg4]) :
    after ops V (b : DevRef τ sig) = V (b : DevRef τ sig) := by
  simp only [List.mem_cons, List.not_mem_nil, or_false] at h
  rcases h with rfl | rfl | rfl | rfl | rfl <;> rfl

end Cert.Proof.R

end
-- ==== Proof.Frames.lean ====
/-
  The frames: each program runs to its end, leaves its arguments as they were and every semaphore counter at zero.
-/
module

public import proofs.«01_k».proof.Proof.Run
public import proofs.«01_k».proof.Proof.Ref
public import proofs.«01_k».proof.Proof.Gen.Kernel

@[expose] public section

noncomputable section

namespace Cert.Proof

open Idealize.ShloMosaic Idealize.ShloMosaic.TcCoe Idealize.SL.Sem

variable {F : FTy → Type} [FloatOps F]

/-- What a run of the kernel leaves in an argument array is what it found there. -/
theorem kernel_arg {m : (ℓ : Loc Cert.KernelIdeal.nD Cert.KernelIdeal.τ Cert.KernelIdeal.sig) → Buf (Elt F) ℓ} {r}
    (h : QC m r) (c : Dev Cert.KernelIdeal.nD) (b : Ref Cert.KernelIdeal.sig .tc)
    (hb : b ∈ ([Cert.KernelIdeal.main_arg0, Cert.KernelIdeal.main_arg1, Cert.KernelIdeal.main_arg2, Cert.KernelIdeal.main_arg3,
      Cert.KernelIdeal.main_arg4] : List (Ref Cert.KernelIdeal.sig .tc))) (hs : ¬ b.isScoped) :
    r.2.mem ((c.tc : Thread Cert.KernelIdeal.nD Cert.KernelIdeal.τ).loc b)
      = m ((c.tc : Thread Cert.KernelIdeal.nD Cert.KernelIdeal.τ).loc b) :=
  (h.1 c _ (mem_uc b hs)).trans (W7_arg m c b hb)

/-- The kernel's run, at any floats: the result is the last valuation's, the arguments and the counters are as they were. -/
theorem kernel_run (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_v14)
            = W7 m c (Cert.KernelIdeal.main_v14 : DevRef Cert.KernelIdeal.τ Cert.KernelIdeal.sig)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c =>
    ⟨h.1 c _ (mem_uc Cert.KernelIdeal.main_v14 (by decide)),
      kernel_arg h c Cert.KernelIdeal.main_arg0 (by decide) (by decide),
      kernel_arg h c Cert.KernelIdeal.main_arg1 (by decide) (by decide),
      kernel_arg h c Cert.KernelIdeal.main_arg2 (by decide) (by decide),
      kernel_arg h c Cert.KernelIdeal.main_arg3 (by decide) (by decide),
      kernel_arg h c Cert.KernelIdeal.main_arg4 (by decide) (by decide)⟩, h.2⟩) (run_all m ρ)

set_option maxHeartbeats 8000000 in
/-- The two printed programs have the same bodies. -/
theorem bodies_eq : Cert.Kernel.defs₀ (F := F) = Cert.KernelIdeal.defs₀ (F := F) := by
  funext p q a
  match p, q, a with
  | .tc, 0, _ => rfl
  | .tc, 1, _ => rfl
  | .tc, 2, _ => rfl
  | .scVector c s, 2, _ => rfl
  | .scVector c s, 0, _ => rfl
  | .scVector c s, 1, _ => rfl
  | .scScalar c, 0, _ => rfl
  | .scScalar c, 1, _ => rfl
  | .scScalar c, 2, _ => rfl

theorem defs_eq : Cert.Kernel.defs (F := F) = Cert.KernelIdeal.defs (F := F) :=
  congrArg (fun D => Cert.KernelIdeal.sc.defs (Pipeline.defs Cert.KernelIdeal.pcfgs D)) bodies_eq

/-- The kernel at machine floats. -/
theorem frame_kernel : Cert.quiescent_Kernel := by
  intro m ρ _
  rw [defs_eq]
  exact (θ_run Cert.KernelIdeal.defs Cert.KernelIdeal.threads ⟨m, fun _ => 0, ρ⟩).mono
    (fun _ h => ⟨fun c => (h.1 c).2, h.2⟩) (kernel_run (F := Bits) m ρ)

/-- The kernel over the reals. -/
theorem frame_ideal : Cert.quiescent_KernelIdeal := fun m ρ _ =>
  (θ_run Cert.KernelIdeal.defs _ _).mono (fun _ h => ⟨fun c => (h.1 c).2, h.2⟩) (kernel_run (F := Ideal) m ρ)

/-- The reference's run, at any floats: the result is what the line leaves, the arguments and the counters are as they were. -/
theorem reference_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_v59)
            = StableHlo.after R.ops (StableHlo.launchContents m c)
              (Cert.ReferenceIdeal.main_v59 : DevRef Cert.ReferenceIdeal.τ Cert.ReferenceIdeal.sig)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c =>
    ⟨h c _, (h c Cert.ReferenceIdeal.main_arg0).trans (R.arg_eq _ _ (by decide)),
      (h c Cert.ReferenceIdeal.main_arg1).trans (R.arg_eq _ _ (by decide)),
      (h c Cert.ReferenceIdeal.main_arg2).trans (R.arg_eq _ _ (by decide)),
      (h c Cert.ReferenceIdeal.main_arg3).trans (R.arg_eq _ _ (by decide)),
      (h c Cert.ReferenceIdeal.main_arg4).trans (R.arg_eq _ _ (by decide))⟩,
    Idealize.ShloMosaic.sem_eq_zero_of_no_sems (by decide) r.2⟩) (R.run_main m ρ)

/-- The reference over the reals. -/
theorem frame_reference : Cert.quiescent_ReferenceIdeal := fun m ρ _ =>
  (θ_run Cert.ReferenceIdeal.defs _ _).mono (fun _ h => ⟨fun c => (h.1 c).2, h.2⟩) (reference_run (F := Ideal) m ρ)

end Cert.Proof

end
-- ==== Proof.Spec.lean ====
/-
  The number both programs compute, over the reals, and the small facts that carry words and extended reals to it.
-/
module

public import proofs.«01_k».proof.Proof.Regions
public import Idealize.ShloMosaic.Lib.Pointwise
public import Idealize.ShloMosaic.Lib.Pipeline.Value

@[expose] public section

noncomputable section

namespace Cert.Proof

open Idealize.ShloMosaic

/-! ## The loss of a batch -/

/-- The margin, the rational its float word is. -/
def margin : ℝ := 10066330 / 2 ^ 24

/-- One when position `l` is the first to hold its value, zero otherwise. -/
def leads (v : Fin 128 → BitVec 32) (l : Fin 128) : ℝ := if ∀ k, k < l → v k ≠ v l then 1 else 0

/-- The row a word below 128 names. -/
def rowOf (w : BitVec 32) : Fin 128 := Fin.ofNat 128 w.toNat

/-- Plus one for a zero word, minus one for a one. -/
def flip (w : BitVec 32) : ℝ := 1 - 2 * (w.toInt : ℝ)

/-- The hinge with the margin. -/
def hinge (x : ℝ) : ℝ := max (x + margin) 0

/-- The signed sum of a score row. -/
def pull (w : BitVec 32) (y : Fin 128 → Fin 2048 → BitVec 32) (a : Fin 2048 → ℝ) : ℝ := ∑ s, a s * flip (y (rowOf w) s)

/-- A batch's loss: the hinges at the leading positions, and four margins for every other position. -/
def loss (v g : Fin 128 → BitVec 32) (y : Fin 128 → Fin 2048 → BitVec 32) (a : Fin 4 → Fin 128 → Fin 2048 → ℝ) : ℝ :=
  ∑ b, ∑ l, hinge (pull (g l) y (a b l)) * leads v l + 4 * (128 - ∑ l, leads v l) * margin

/-- The mean over the batches and the four sign rows of every position. -/
def total (v g : Fin 16 → Fin 128 → BitVec 32) (y : Fin 16 → Fin 128 → Fin 2048 → BitVec 32) (a : Fin 4 → Fin 16 → Fin 128 → Fin 2048 → ℝ) : ℝ :=
  (∑ i, loss (v i) (g i) (y i) fun b => a b i) / 8192

/-! ## Constants -/

theorem word_margin : Ideal.ofBits .f32 0x3F19999A#32 = ((margin : ℝ) : EReal) := by
  simp [Ideal.ofBits, Ideal.ieee]; rw [← EReal.coe_mul]; norm_num [margin]
theorem word_margins : Ideal.ofBits .f32 0x4019999A#32 = ((4 * margin : ℝ) : EReal) := by
  have e : (4 * margin : ℝ) = 10066330 * (2 ^ 22)⁻¹ := by norm_num [margin]
  rw [e, EReal.coe_mul]; simp [Ideal.ofBits, Ideal.ieee]
theorem word_half : Ideal.ofBits .f32 0x3F000000#32 = ((1 / 2 : ℝ) : EReal) := by
  simp [Ideal.ofBits, Ideal.ieee]; rw [← EReal.coe_mul]; norm_num
theorem word_one : Ideal.ofBits .f32 0x3F800000#32 = ((1 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_four : Ideal.ofBits .f32 0x40800000#32 = ((4 : ℝ) : EReal) := by
  simp [Ideal.ofBits, Ideal.ieee]; rw [← EReal.coe_mul]; norm_num
theorem word_128 : Ideal.ofBits .f32 0x43000000#32 = ((128 : ℝ) : EReal) := by
  simp [Ideal.ofBits, Ideal.ieee]; rw [← EReal.coe_mul]; norm_num
theorem word_8192 : Ideal.ofBits .f32 0x46000000#32 = ((8192 : ℝ) : EReal) := by
  simp [Ideal.ofBits, Ideal.ieee]; rw [← EReal.coe_mul]; norm_num

/-! ## Real numbers among the extended reals -/

theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem coe_max (a b : ℝ) : max (a : EReal) (b : EReal) = ((max a b : ℝ) : EReal) :=
  (EReal.coe_strictMono.monotone.map_max).symm

theorem coe_hinge (x : ℝ) : max ((x + margin : ℝ) : EReal) 0 = ((hinge x : ℝ) : EReal) := by
  rw [← EReal.coe_zero, coe_max]; rfl

/-! ## Words as numbers -/

theorem sitofp_coe (w : BitVec 32) : (FloatOps.sitofp (F := Ideal) .f32 w : EReal) = ((w.toInt : ℝ) : EReal) := by
  rfl

/-- A comparison's bit, widened and made a float. -/
theorem sitofp_eq (a b : BitVec 32) :
    (FloatOps.sitofp (F := Ideal) .f32 (BitVec.setWidth 32 (IntOp.cmpi .eq a b)) : EReal) = ((if a = b then 1 else 0 : ℝ) : EReal) := by
  rw [sitofp_coe]
  by_cases h : a = b
  · subst h; simp [IntOp.cmpi]
  · have h' : (a == b) = false := by simpa using h
    simp [IntOp.cmpi, h, h']

theorem rowOf_eq {w : BitVec 32} (h : w.toNat < 128) (k : Fin 128) : w = BitVec.ofNat 32 k.val ↔ rowOf w = k := by
  unfold rowOf
  rw [Fin.ext_iff, Fin.val_ofNat, Nat.mod_eq_of_lt h, ← BitVec.toNat_inj, BitVec.toNat_ofNat, Nat.mod_eq_of_lt (by omega)]

/-- A row of a one-hot table, summed against anything, picks one entry. -/
theorem sum_onehot {w : BitVec 32} (h : w.toNat < 128) (f : Fin 128 → ℝ) :
    ∑ k : Fin 128, (if w = BitVec.ofNat 32 k.val then (1 : ℝ) else 0) * f k = f (rowOf w) := by
  simp only [rowOf_eq h, ite_mul, one_mul, zero_mul]
  rw [Finset.sum_ite_eq]; simp

end Cert.Proof
-- ==== Proof.Point.lean ====
/-
  What the TensorCore bodies compute of a batch, over the extended reals: the mask of leading positions, the signs, and the
  loss of a batch spread over a tile.
-/
module

public import proofs.«01_k».proof.Proof.Spec

@[expose] public section

noncomputable section

namespace Cert.Proof

open Cert.KernelIdeal Cert.KernelIdeal.Gen
open Idealize.ShloMosaic

/-! ## The mask -/

theorem toInt_minsi (a b : BitVec 32) : (IntOp.minsi a b).toInt = min a.toInt b.toInt := by
  unfold IntOp.minsi
  rw [BitVec.slt_eq_decide]
  split
  · next h => have : a.toInt < b.toInt := by simpa using h
              rw [min_eq_left this.le]
  · next h => have : ¬ a.toInt < b.toInt := by simpa using h
              rw [min_eq_right (by omega)]

theorem toInt_small {n : ℕ} (h : n < 1000) : (BitVec.ofNat 32 n).toInt = n := by
  have e : (BitVec.ofNat 32 n).toNat = n := by rw [BitVec.toNat_ofNat]; exact Nat.mod_eq_of_lt (by omega)
  rw [BitVec.toInt_eq_toNat_of_lt (by omega), e]

/-- The least position where `p` holds, as a word, is `l`'s exactly when `l` is the first. -/
theorem fold_least (p : Fin 128 → Prop) [DecidablePred p] (l : Fin 128) (hl : p l) :
    Finset.univ.fold IntOp.minsi 2147483647#32 (fun x : Fin 128 => if p x then BitVec.ofNat 32 x.val else 128#32) = BitVec.ofNat 32 l.val
      ↔ ∀ k, k < l → ¬ p k := by
  have e : (Finset.univ.fold IntOp.minsi 2147483647#32 (fun x : Fin 128 => if p x then BitVec.ofNat 32 x.val else 128#32)).toInt
      = Finset.univ.fold min (2147483647 : ℤ) (fun x : Fin 128 => if p x then (x.val : ℤ) else 128) := by
    rw [← Finset.fold_hom (op := IntOp.minsi) (op' := min) (m := BitVec.toInt) fun a b => toInt_minsi a b]
    refine Finset.fold_congr fun x _ => ?_
    split
    · exact toInt_small (by omega)
    · rfl
  rw [← BitVec.toInt_inj, e, toInt_small (by omega)]
  constructor
  · intro h k hk hp
    have := (Finset.le_fold_min (b := (2147483647 : ℤ)) (f := fun x : Fin 128 => if p x then (x.val : ℤ) else 128) (s := Finset.univ) (l.val : ℤ)).mp (le_of_eq h.symm)
    have := this.2 k (Finset.mem_univ _)
    rw [if_pos hp] at this
    omega
  · intro h
    refine le_antisymm ?_ ?_
    · exact (Finset.fold_min_le _).mpr (.inr ⟨l, Finset.mem_univ _, by rw [if_pos hl]⟩)
    · refine (Finset.le_fold_min _).mpr ⟨by omega, fun k _ => ?_⟩
      split
      · next hp => have := h k; by_contra hc; exact this (by omega) hp
      · omega

/-- Two one-hot rows meet exactly when they are of one value. -/
theorem half_lt {v w : BitVec 32} (h : v.toNat < 128) :
    (Ideal.ofBits .f32 1056964608#32 <
      ∑ k : Fin 128, (FloatOps.sitofp (F := Ideal) .f32 (BitVec.setWidth 32 (IntOp.cmpi .eq v (BitVec.ofNat 32 k.val))) : EReal)
        * FloatOps.sitofp (F := Ideal) .f32 (BitVec.setWidth 32 (IntOp.cmpi .eq w (BitVec.ofNat 32 k.val)))) ↔ w = v := by
  simp only [sitofp_eq, ← EReal.coe_mul, coe_sum, sum_onehot h, word_half, EReal.coe_lt_coe_iff]
  have hv : v = BitVec.ofNat 32 (rowOf v).val := (rowOf_eq h _).mpr rfl
  rw [← hv]
  by_cases e : w = v
  · simp [e]; norm_num
  · simp [e]

/-- Either body's mask marks the leading positions. -/
theorem mask_col (x : Vec Ideal S1x1x128 .i32) (h : ∀ l, (x (ix3 0 0 l)).toNat < 128) (l : Fin 128) :
    k0_pay3 x (ix2 l 0) = ((leads (fun k => x (ix3 0 0 k)) l : ℝ) : EReal) := by
  pointwise [k0_pay3]
  simp only [half_lt (h l)]
  rw [sitofp_eq]
  exact congrArg _ (if_congr (fold_least (fun k => x (ix3 0 0 k) = x (ix3 0 0 l)) _ rfl) rfl rfl)

theorem mask_row (x : Vec Ideal S1x1x128 .i32) (h : ∀ l, (x (ix3 0 0 l)).toNat < 128) (l : Fin 128) :
    maskBlk x (ix3 0 0 l) = ((leads (fun k => x (ix3 0 0 k)) l : ℝ) : EReal) := by
  pointwise [maskBlk, k1_pay2]
  have e : ∀ k, (x (ix3 0 0 l) = x (ix3 0 0 k)) = (x (ix3 0 0 k) = x (ix3 0 0 l)) := fun k => propext eq_comm
  simp only [half_lt (h _), e]
  rw [sitofp_eq]
  exact congrArg _ (if_congr (fold_least (fun k => x (ix3 0 0 k) = x (ix3 0 0 l)) _ rfl) rfl rfl)

/-! ## The signs -/

theorem sign_sum {w : BitVec 32} (h : w.toNat < 128) (y : Fin 128 → BitVec 32) :
    ∑ k : Fin 128, (FloatOps.sitofp (F := Ideal) .f32 (BitVec.setWidth 32 (IntOp.cmpi .eq w (BitVec.ofNat 32 k.val))) : EReal)
        * (1 - Ideal.ofBits .f32 1073741824#32 * FloatOps.sitofp (F := Ideal) .f32 (y k)) = ((flip (y (rowOf w)) : ℝ) : EReal) := by
  rw [← EReal.coe_one, word_two]
  simp only [sitofp_eq]
  simp only [sitofp_coe, ← EReal.coe_mul, ← EReal.coe_sub, coe_sum]
  rw [sum_onehot h]
  rfl

theorem sign_at (x : Vec Ideal S1x1x128 .i32) (y : Vec Ideal S1x128x2048 .i32) (h : ∀ l, (x (ix3 0 0 l)).toNat < 128) (l : Fin 128) (s : Fin 2048) :
    k0_pay4 x y (ix2 l s) = ((flip (y (ix3 0 (rowOf (x (ix3 0 0 l))) s)) : ℝ) : EReal) := by
  pointwise [k0_pay4]
  exact sign_sum (h l) fun k => y (ix3 0 k s)

theorem sign_row (x : Vec Ideal S1x1x128 .i32) (y : Vec Ideal S1x128x2048 .i32) (h : ∀ l, (x (ix3 0 0 l)).toNat < 128) (l : Fin 128) (s : Fin 2048) :
    signBlk x y (ix3 0 l s) = ((flip (y (ix3 0 (rowOf (x (ix3 0 0 l))) s)) : ℝ) : EReal) := by
  pointwise [signBlk, k1_pay1, k1_pay3]
  exact sign_sum (h l) fun k => y (ix3 0 k s)

/-! ## The loss of a batch -/

theorem att_at (n : Fin 4) (h) (x : Vec Ideal S4x1x128x2048 .f32) (l : Fin 128) (s : Fin 2048) :
    att n.val h x (ix4 0 0 l s) = x (ix4 n 0 l s) := by
  refine congrArg x ?_
  funext a
  match a with
  | ⟨0, _⟩ => exact Fin.ext (by show n.val + 1 * 0 = n.val; omega)
  | ⟨1, _⟩ => rfl
  | ⟨2, _⟩ => exact Fin.ext (by show 0 + 1 * l.val = l.val; omega)
  | ⟨3, _⟩ => exact Fin.ext (by show 0 + 1 * s.val = s.val; omega)

/-- A grid point's tile holds its batch's loss everywhere. -/
theorem partTile_eq (x0 x1 : Vec Ideal S1x1x128 .i32) (x2 : Vec Ideal S1x128x2048 .i32) (x3 : Vec Ideal S4x1x128x2048 .f32)
    (h0 : ∀ l, (x0 (ix3 0 0 l)).toNat < 128) (h1 : ∀ l, (x1 (ix3 0 0 l)).toNat < 128)
    (a : Fin 4 → Fin 128 → Fin 2048 → ℝ) (h3 : ∀ b l s, x3 (ix4 b 0 l s) = ((a b l s : ℝ) : EReal)) (y : S8x128.Idx) :
    partTile x0 x1 x2 x3 y
      = ((loss (fun l => x0 (ix3 0 0 l)) (fun l => x1 (ix3 0 0 l)) (fun k s => x2 (ix3 0 k s)) a : ℝ) : EReal) := by
  have e0 : ∀ l s, att 0 inb_S4x1x128x2048_S1x1x128x2048_0_0_0_0 x3 (ix4 0 0 l s) = ((a 0 l s : ℝ) : EReal) := fun l s => (att_at 0 _ x3 l s).trans (h3 0 l s)
  have e1 : ∀ l s, att 1 inb_S4x1x128x2048_S1x1x128x2048_1_0_0_0 x3 (ix4 0 0 l s) = ((a 1 l s : ℝ) : EReal) := fun l s => (att_at 1 _ x3 l s).trans (h3 1 l s)
  have e2 : ∀ l s, att 2 inb_S4x1x128x2048_S1x1x128x2048_2_0_0_0 x3 (ix4 0 0 l s) = ((a 2 l s : ℝ) : EReal) := fun l s => (att_at 2 _ x3 l s).trans (h3 2 l s)
  have e3 : ∀ l s, att 3 inb_S4x1x128x2048_S1x1x128x2048_3_0_0_0 x3 (ix4 0 0 l s) = ((a 3 l s : ℝ) : EReal) := fun l s => (att_at 3 _ x3 l s).trans (h3 3 l s)
  pointwise [partTile, k0_pay1, k0_pay6, k0_pay7, k0_pay5]
  simp only [e0, e1, e2, e3, sign_at x1 x2 h1, mask_col x0 h0, word_margin, word_four, word_128, ← EReal.coe_mul, coe_sum, coe_hinge,
    Finset.univ_unique, Finset.sum_singleton, ← EReal.coe_add, ← EReal.coe_sub]
  simp only [loss, pull, Fin.sum_univ_four]

end Cert.Proof
-- ==== Proof.Rows.lean ====
/-
  What the SparseCore tiles compute, over the extended reals: each tile's lane zero holds the losses of its eight positions,
  every other lane zero.
-/
module

public import proofs.«01_k».proof.Proof.Spec
public import proofs.«01_k».proof.Proof.Tile

@[expose] public section

noncomputable section

namespace Cert.Proof

open Cert.KernelIdeal Cert.KernelIdeal.Gen
open Idealize.ShloMosaic

/-! ## Sums in blocks -/

theorem sum_blocks {α : Type*} [AddCommMonoid α] (f : ℕ → α) (b : ℕ) : ∀ a : ℕ,
    ∑ n ∈ Finset.range (a * b), f n = ∑ i ∈ Finset.range a, ∑ t ∈ Finset.range b, f (b * i + t)
  | 0 => by simp
  | a + 1 => by rw [Nat.succ_mul, Finset.sum_range_add, sum_blocks f b a, Finset.sum_range_succ, Nat.mul_comm a b]

/-! ## A row -/

/-- Lane zero of the folded registers is their whole sum. -/
theorem tree_zero (a : Acc Ideal) :
    tree a (ix1 0) = ∑ x : Fin 16, ((a.1 (ix1 x) + a.2.1 (ix1 x)) + (a.2.2.1 (ix1 x) + a.2.2.2 (ix1 x)) : EReal) := by
  have h (v : Vec Ideal S16 .f32) (n i : ℕ) (hi : i < 16) (hn : n + i < 16) : up v n (ix1 ⟨i, hi⟩) = v (ix1 ⟨n + i, hn⟩) := dif_pos hn
  have e (v w : FVec Ideal S16 .f32) (y : S16.Idx) : addf v w y = (v y + w y : EReal) := rfl
  generalize hv : addf (addf a.1 a.2.1) (addf a.2.2.1 a.2.2.2) = v
  have hx (x : Fin 16) : ((a.1 (ix1 x) + a.2.1 (ix1 x)) + (a.2.2.1 (ix1 x) + a.2.2.2 (ix1 x)) : EReal) = v (ix1 x) := by rw [← hv]; rfl
  simp only [hx, tree, hv]
  rw [show (0 : Fin 16) = ⟨0, by decide⟩ from rfl]
  simp only [e, h _ _ _ _ (show 1 + 0 < 16 by decide), h _ _ _ _ (show 2 + 0 < 16 by decide), h _ _ _ _ (show 2 + (1 + 0) < 16 by decide),
    h _ _ _ _ (show 4 + 0 < 16 by decide), h _ _ _ _ (show 4 + (1 + 0) < 16 by decide), h _ _ _ _ (show 4 + (2 + 0) < 16 by decide), h _ _ _ _ (show 4 + (2 + (1 + 0)) < 16 by decide)]
  simp only [h _ 8 _ _ (show 8 + 0 < 16 by decide), h _ 8 _ _ (show 8 + (1 + 0) < 16 by decide), h _ 8 _ _ (show 8 + (2 + 0) < 16 by decide), h _ 8 _ _ (show 8 + (2 + (1 + 0)) < 16 by decide),
    h _ 8 _ _ (show 8 + (4 + 0) < 16 by decide), h _ 8 _ _ (show 8 + (4 + (1 + 0)) < 16 by decide), h _ 8 _ _ (show 8 + (4 + (2 + 0)) < 16 by decide), h _ 8 _ _ (show 8 + (4 + (2 + (1 + 0))) < 16 by decide)]
  simp only [Fin.sum_univ_succ, Fin.sum_univ_zero]
  simp only [Fin.succ, Fin.val_zero, Nat.add_zero, Nat.reduceAdd, add_zero, Fin.mk_zero, Fin.zero_eta]
  abel

variable {A S : S16384.Idx → Elt Ideal .f32} {p : ℕ → ℝ}

/-- The four registers after `j` trips. -/
theorem rowAcc_at (hp : ∀ n : Fin 16384, (A (ix1 n) * S (ix1 n) : EReal) = ((p n.val : ℝ) : EReal)) {k : ℕ} (hk : k < 8) (x : Fin 16) :
    ∀ j : ℕ, j ≤ 16 →
    (rowAcc A S k j).1 (ix1 x) = ((∑ i ∈ Finset.range j, (p (2048 * k + 128 * i + x.val) + p (2048 * k + 128 * i + 64 + x.val)) : ℝ) : EReal)
    ∧ (rowAcc A S k j).2.1 (ix1 x) = ((∑ i ∈ Finset.range j, (p (2048 * k + 128 * i + 16 + x.val) + p (2048 * k + 128 * i + 80 + x.val)) : ℝ) : EReal)
    ∧ (rowAcc A S k j).2.2.1 (ix1 x) = ((∑ i ∈ Finset.range j, (p (2048 * k + 128 * i + 32 + x.val) + p (2048 * k + 128 * i + 96 + x.val)) : ℝ) : EReal)
    ∧ (rowAcc A S k j).2.2.2 (ix1 x) = ((∑ i ∈ Finset.range j, (p (2048 * k + 128 * i + 48 + x.val) + p (2048 * k + 128 * i + 112 + x.val)) : ℝ) : EReal)
  | 0, _ => by
    have e : (zero16 (F := Ideal)) (ix1 x) = ((0 : ℝ) : EReal) := Ideal.ofBits_zero_f32
    exact ⟨e, e, e, e⟩
  | j + 1, hj => by
    obtain ⟨h1, h2, h3, h4⟩ := rowAcc_at hp hk x j (by omega)
    have hx := x.isLt
    have hm (acc : FVec Ideal S16 .f32) (r : ℝ) (h : acc (ix1 x) = ((r : ℝ) : EReal)) (n : ℕ) (hn : n + x.val < 16384) :
        mac acc (lanes A n) (lanes S n) (ix1 x) = ((r + p (n + x.val) : ℝ) : EReal) := by
      have e := hp (Fin.ofNat 16384 (n + x.val))
      rw [Fin.val_ofNat, Nat.mod_eq_of_lt hn] at e
      unfold mac
      rw [shapeCast_self, shapeCast_self, EReal.coe_add, ← e, ← h]
      rfl
    simp only [Finset.sum_range_succ, ← add_assoc]
    exact ⟨hm _ _ (hm _ _ h1 _ (by omega)) _ (by omega), hm _ _ (hm _ _ h2 _ (by omega)) _ (by omega),
      hm _ _ (hm _ _ h3 _ (by omega)) _ (by omega), hm _ _ (hm _ _ h4 _ (by omega)) _ (by omega)⟩

/-- Lane zero of a row's folded registers is the sum of its products. -/
theorem row_sum (hp : ∀ n : Fin 16384, (A (ix1 n) * S (ix1 n) : EReal) = ((p n.val : ℝ) : EReal)) {k : ℕ} (hk : k < 8) :
    tree (rowAcc A S k 16) (ix1 0) = ((∑ s ∈ Finset.range 2048, p (2048 * k + s) : ℝ) : EReal) := by
  rw [tree_zero]
  have e (x : Fin 16) := rowAcc_at hp hk x 16 le_rfl
  simp only [(e _).1, (e _).2.1, (e _).2.2.1, (e _).2.2.2, ← EReal.coe_add, coe_sum]
  congr 1
  rw [show 2048 = 16 * 128 from rfl, sum_blocks]
  simp only [← Finset.sum_add_distrib]
  rw [Finset.sum_comm]
  refine Finset.sum_congr rfl fun i _ => ?_
  rw [show 128 = 8 * 16 from rfl, sum_blocks, Finset.sum_comm, Finset.sum_range (n := 16)]
  refine Finset.sum_congr rfl fun x _ => ?_
  simp only [Finset.sum_range_succ, Finset.sum_range_zero]
  ring_nf

/-! ## A tile -/

/-- The lane indicator. -/
theorem lane_zero (x : Fin 16) : (k2_pay87 (F := Ideal)) (ix1 x) = (if x = 0 then 1 else 0 : EReal) := by
  have h : ∀ x : Fin 16, IntOp.subi 1#32 (IntOp.minsi (BitVec.ofNat 32 x.val) 1#32) = if x = 0 then 1#32 else 0#32 := by decide
  pointwise [k2_pay87]
  rw [h, sitofp_coe]
  split <;> simp

/-- Position `q`'s loss, off the flat arrays. -/
def posLoss (m g a : ℕ → ℝ) (q : ℕ) : ℝ :=
  ∑ r ∈ Finset.range 4, hinge (∑ s ∈ Finset.range 2048, a (4194304 * r + (2048 * q + s)) * g (2048 * q + s)) * m q + 4 * margin * (1 - m q)

variable {M : S256.Idx → Elt Ideal .f32} {S : S524288.Idx → Elt Ideal .f32} {A : S16777216.Idx → Elt Ideal .f32} {m g a : ℕ → ℝ}

theorem term_zero (x : Fin 16) (hx : x ≠ 0) (M' : S32.Idx → Elt Ideal .f32) (A' S' : S16384.Idx → Elt Ideal .f32) (k : ℕ) :
    rowTerm (k2_pay87 (F := Ideal)) M' A' S' k (ix1 x) = (0 : EReal) := by
  have e := lane_zero x
  rw [if_neg hx] at e
  show (_ * (k2_pay87 (F := Ideal)) (ix1 x) * _ : EReal) = 0
  rw [e, mul_zero, zero_mul]

theorem fill_zero (x : Fin 16) (hx : x ≠ 0) (M' : S32.Idx → Elt Ideal .f32) (k : ℕ) :
    fillTerm (k2_pay87 (F := Ideal)) M' k (ix1 x) = (0 : EReal) := by
  have e := lane_zero x
  rw [if_neg hx] at e
  show (_ * (k2_pay87 (F := Ideal)) (ix1 x) * _ : EReal) = 0
  rw [e, mul_zero, zero_mul]

theorem accTo_at (term : ℕ → FVec Ideal S16 .f32) (b : FVec Ideal S16 .f32) (x : Fin 16) (t : ℕ → ℝ) (r : ℝ) (hb : b (ix1 x) = ((r : ℝ) : EReal)) :
    ∀ n : ℕ, (∀ k < n, term k (ix1 x) = ((t k : ℝ) : EReal)) → accTo term b n (ix1 x) = ((r + ∑ k ∈ Finset.range n, t k : ℝ) : EReal)
  | 0, _ => by
    show b (ix1 x) = _
    rw [hb]; simp
  | n + 1, h => by
    rw [Finset.sum_range_succ, ← add_assoc, EReal.coe_add, ← accTo_at term b x t r hb n fun k hk => h k (by omega), ← h n (by omega)]
    rfl

theorem tile_lane (c : Fin 2) (s : Fin 16) (hM : ∀ n, M (ix1 n) = ((m n.val : ℝ) : EReal)) (hS : ∀ n, S (ix1 n) = ((g n.val : ℝ) : EReal))
    (hA : ∀ n, A (ix1 n) = ((a n.val : ℝ) : EReal)) (x : Fin 16) :
    tileOut (coordsV c s) M S A (ix1 x)
      = (((if x = 0 then ∑ k ∈ Finset.range 8, posLoss m g a (8 * (2 * s.val + c.val) + k) else 0 : ℝ)) : EReal) := by
  by_cases hx : x = 0
  · subst hx
    rw [if_pos rfl]
    have hc := c.isLt
    have hs := s.isLt
    have e1 : (k2_pay87 (F := Ideal)) (ix1 0) = (1 : EReal) := lane_zero 0
    have hm (k : ℕ) (hk : k < 8) : lanes (maskOf (coordsV c s) M) k (ix1 0) = ((m (8 * (2 * s.val + c.val) + k) : ℝ) : EReal) := by
      show maskOf (coordsV c s) M (ix1 (Fin.ofNat 32 (k + 0))) = _
      have e : ((ix1 (Fin.ofNat 32 (k + 0)) : S32.Idx) 0).val = k := by show (k + 0) % 32 = k; omega
      unfold maskOf
      rw [if_pos (by rw [e]; exact hk), hM]
      refine congrArg (fun n => ((m n : ℝ) : EReal)) ?_
      rw [e, Fin.val_ofNat]
      show (16 * s.val + 8 * c.val + k) % 256 = _
      omega
    have hr (r : ℕ) (hr : r < 4) (k : ℕ) (hk : k < 8) : rowTerm (k2_pay87 (F := Ideal)) (maskOf (coordsV c s) M) (attOf (coordsV c s) A r) (signOf (coordsV c s) S) k (ix1 0)
        = ((hinge (∑ t ∈ Finset.range 2048, a (4194304 * r + (2048 * (8 * (2 * s.val + c.val) + k) + t)) * g (2048 * (8 * (2 * s.val + c.val) + k) + t))
            * m (8 * (2 * s.val + c.val) + k) : ℝ) : EReal) := by
      have hp (n : Fin 16384) : (attOf (coordsV c s) A r (ix1 n) * signOf (coordsV c s) S (ix1 n) : EReal)
          = ((a (4194304 * r + (16384 * (2 * s.val + c.val) + n.val)) * g (16384 * (2 * s.val + c.val) + n.val) : ℝ) : EReal) := by
        have hn := n.isLt
        have ea : attOf (coordsV c s) A r (ix1 n) = ((a (4194304 * r + (16384 * (2 * s.val + c.val) + n.val)) : ℝ) : EReal) := by
          show A (ix1 _) = _
          rw [hA]
          refine congrArg (fun n => ((a n : ℝ) : EReal)) ?_
          show (4194304 * r + 32768 * s.val + 16384 * c.val + n.val) % 16777216 = _
          omega
        have es : signOf (coordsV c s) S (ix1 n) = ((g (16384 * (2 * s.val + c.val) + n.val) : ℝ) : EReal) := by
          show S (ix1 _) = _
          rw [hS]
          refine congrArg (fun n => ((g n : ℝ) : EReal)) ?_
          show (32768 * s.val + 16384 * c.val + n.val) % 524288 = _
          omega
        rw [ea, es, ← EReal.coe_mul]
      have ht := row_sum (p := fun n => a (4194304 * r + (16384 * (2 * s.val + c.val) + n)) * g (16384 * (2 * s.val + c.val) + n)) hp hk
      show (max (tree (F := Ideal) _ (ix1 0) + Ideal.ofBits .f32 0x3F19999A#32) (Ideal.ofBits .f32 0x00000000#32) * (k2_pay87 (F := Ideal)) (ix1 0)
        * lanes (maskOf (coordsV c s) M) k (ix1 0) : EReal) = _
      rw [ht, hm k hk, e1, mul_one, word_margin, Ideal.ofBits_zero_f32, ← EReal.coe_add, coe_hinge, ← EReal.coe_mul]
      refine congrArg (fun z : ℝ => ((hinge z * m (8 * (2 * s.val + c.val) + k) : ℝ) : EReal)) (Finset.sum_congr rfl fun t _ => ?_)
      have e2 : 16384 * (2 * s.val + c.val) + (2048 * k + t) = 2048 * (8 * (2 * s.val + c.val) + k) + t := by omega
      rw [e2]
    have hf (k : ℕ) (hk : k < 8) : fillTerm (k2_pay87 (F := Ideal)) (maskOf (coordsV c s) M) k (ix1 0)
        = ((4 * margin * (1 - m (8 * (2 * s.val + c.val) + k)) : ℝ) : EReal) := by
      show (Ideal.ofBits .f32 0x4019999A#32 * (k2_pay87 (F := Ideal)) (ix1 0)
        * (Ideal.ofBits .f32 0x3F800000#32 - lanes (maskOf (coordsV c s) M) k (ix1 0)) : EReal) = _
      rw [hm k hk, e1, mul_one, word_margins, word_one, ← EReal.coe_sub, ← EReal.coe_mul]
    have h0 := accTo_at (fun k => addf (F := Ideal) (rowTerm (F := Ideal) (k2_pay87 (F := Ideal)) (maskOf (coordsV c s) M) (attOf (coordsV c s) A 0) (signOf (coordsV c s) S) k) (fillTerm (F := Ideal) (k2_pay87 (F := Ideal)) (maskOf (coordsV c s) M) k))
      (zero16 (F := Ideal)) 0 _ 0 Ideal.ofBits_zero_f32 8 fun k hk => (congrArg₂ (fun u v : EReal => u + v) (hr 0 (by omega) k hk) (hf k hk)).trans (EReal.coe_add _ _).symm
    have h1 := accTo_at _ _ 0 _ _ h0 8 fun k hk => hr 1 (by omega) k hk
    have h2 := accTo_at _ _ 0 _ _ h1 8 fun k hk => hr 2 (by omega) k hk
    have h3 := accTo_at _ _ 0 _ _ h2 8 fun k hk => hr 3 (by omega) k hk
    refine h3.trans (congrArg _ ?_)
    simp only [posLoss, ← Finset.sum_add_distrib, zero_add]
    refine Finset.sum_congr rfl fun k _ => ?_
    simp only [Finset.sum_range_succ (n := 3), Finset.sum_range_succ (n := 2), Finset.sum_range_succ (n := 1), Finset.sum_range_succ (n := 0), Finset.sum_range_zero, zero_add]
    ring
  · rw [if_neg hx]
    have hz (term : ℕ → FVec Ideal S16 .f32) (b : FVec Ideal S16 .f32) (hb : b (ix1 x) = ((0 : ℝ) : EReal)) (h : ∀ k, term k (ix1 x) = (0 : EReal)) :
        accTo term b 8 (ix1 x) = ((0 : ℝ) : EReal) := by
      have := accTo_at term b x (fun _ => 0) 0 hb 8 fun k _ => h k
      simpa using this
    refine hz _ _ (hz _ _ (hz _ _ (hz _ _ Ideal.ofBits_zero_f32 fun k => ?_) fun k => term_zero x hx ..) fun k => term_zero x hx ..) fun k => term_zero x hx ..
    show (rowTerm (F := Ideal) _ _ _ _ k (ix1 x) + fillTerm (F := Ideal) _ _ k (ix1 x) : EReal) = 0
    rw [term_zero x hx, fill_zero x hx, add_zero]

end Cert.Proof
-- ==== Proof.Kernel.lean ====
/-
  The kernel's result over the extended reals, on in-range words and finite weights: the mean loss.
-/
module

public import proofs.«01_k».proof.Proof.Main
public import proofs.«01_k».proof.Proof.Point
public import proofs.«01_k».proof.Proof.Rows
public import Idealize.ShloMosaic.Lib.StableHlo.ReadAt

@[expose] public section

noncomputable section

namespace Cert.Proof

open Cert.KernelIdeal Cert.KernelIdeal.Gen
open Idealize.ShloMosaic Idealize.ShloMosaic.TcCoe Idealize.ShloMosaic.StableHlo

variable (m : (ℓ : Loc nD τ sig) → Buf (Elt Ideal) ℓ) (d : Dev nD)

/-! ## The inputs -/

/-- The values, the indices, the sign words and the weights at launch. -/
def inV (i : Fin 16) (l : Fin 128) : BitVec 32 := (W0 m d (main_arg1 : DevRef τ sig) : S16x128.Idx → BitVec 32) (ix2 i l)
def inG (i : Fin 16) (l : Fin 128) : BitVec 32 := (W0 m d (main_arg0 : DevRef τ sig) : S16x128.Idx → BitVec 32) (ix2 i l)
def inY (i : Fin 16) (l : Fin 128) (s : Fin 2048) : BitVec 32 := (W0 m d (main_arg2 : DevRef τ sig) : S16x128x2048.Idx → BitVec 32) (ix3 i l s)
def inA (b : Fin 4) (i : Fin 16) (l : Fin 128) (s : Fin 2048) : EReal := (W0 m d (main_arg3 : DevRef τ sig) : S4x16x128x2048.Idx → EReal) (ix4 b i l s)

theorem w1_v (i : Fin 16) (l : Fin 128) : (W1 m d (main_v0 : DevRef τ sig) : S16x1x128.Idx → BitVec 32) (ix3 i 0 l) = inV m d i l := by
  unfold W1 opsA; after_reads_at; rfl
theorem w1_g (i : Fin 16) (l : Fin 128) : (W1 m d (main_v1 : DevRef τ sig) : S16x1x128.Idx → BitVec 32) (ix3 i 0 l) = inG m d i l := by
  unfold W1 opsA; after_reads_at; rfl
theorem w1_y (i : Fin 16) (l : Fin 128) (s : Fin 2048) : (W1 m d (main_arg2 : DevRef τ sig) : S16x128x2048.Idx → BitVec 32) (ix3 i l s) = inY m d i l s := by
  unfold W1 opsA; after_reads_at; rfl
theorem w1_a (b : Fin 4) (i : Fin 16) (l : Fin 128) (s : Fin 2048) : (W1 m d (main_arg3 : DevRef τ sig) : S4x16x128x2048.Idx → EReal) (ix4 b i l s) = inA m d b i l s := by
  unfold W1 opsA; after_reads_at; rfl

theorem w2_ne (b : Ref sig .tc) (h : b ≠ main_v2) : W2 m d (b : DevRef τ sig) = W1 m d (b : DevRef τ sig) :=
  Function.update_of_ne (devRef_ne_of_ne h) _ _
theorem w2_v2 : W2 m d (main_v2 : DevRef τ sig) = partial_ (vals (W1 m)) d := Function.update_self ..

theorem w3_v (i : Fin 16) (l : Fin 128) : (W3 m d (main_v5 : DevRef τ sig) : S16x1x128.Idx → BitVec 32) (ix3 i 0 l) = inV m d i l := by
  unfold W3 opsB; after_reads_at; rw [w2_ne m d _ (by decide)]; unfold W1 opsA; after_reads_at; rfl
theorem w3_g (i : Fin 16) (l : Fin 128) : (W3 m d (main_v6 : DevRef τ sig) : S16x1x128.Idx → BitVec 32) (ix3 i 0 l) = inG m d i l := by
  unfold W3 opsB; after_reads_at; rw [w2_ne m d _ (by decide)]; unfold W1 opsA; after_reads_at; rfl
theorem w3_y (i : Fin 16) (l : Fin 128) (s : Fin 2048) : (W3 m d (main_arg2 : DevRef τ sig) : S16x128x2048.Idx → BitVec 32) (ix3 i l s) = inY m d i l s := by
  unfold W3 opsB; after_reads_at; rw [w2_ne m d _ (by decide)]; exact w1_y m d i l s
theorem w3_a (b : Fin 4) (i : Fin 16) (l : Fin 128) (s : Fin 2048) : (W3 m d (main_arg3 : DevRef τ sig) : S4x16x128x2048.Idx → EReal) (ix4 b i l s) = inA m d b i l s := by
  unfold W3 opsB; after_reads_at; rw [w2_ne m d _ (by decide)]; exact w1_a m d b i l s
theorem w3_v4 (j : S_.Idx) : (W3 m d (main_v4 : DevRef τ sig) : S_.Idx → EReal) j = partial_ (vals (W1 m)) d (ix2 0 0) := by
  unfold W3 opsB; after_reads_at; rw [w2_v2]

theorem w4_ne (b : Ref sig .tc) (h : b ≠ main_v7_0) (h' : b ≠ main_v7_1) : W4 m d (b : DevRef τ sig) = W3 m d (b : DevRef τ sig) :=
  (Function.update_of_ne (devRef_ne_of_ne h') _ _).trans (Function.update_of_ne (devRef_ne_of_ne h) _ _)
theorem w4_mask : W4 m d (main_v7_0 : DevRef τ sig) = masks (vals (W3 m)) d :=
  (Function.update_of_ne (by decide) _ _).trans (Function.update_self ..)
theorem w4_sign : W4 m d (main_v7_1 : DevRef τ sig) = signs (vals (W3 m)) d := Function.update_self ..

/-! ## The blocks -/

theorem geom0 : ∀ t : Fin grid0.N,
    (win0_0.index t 0 * win0_0.size 0 = t.val + 2 ∧ win0_0.index t 1 * win0_0.size 1 = 0 ∧ win0_0.index t 2 * win0_0.size 2 = 0)
    ∧ (win0_1.index t 0 * win0_1.size 0 = t.val + 2 ∧ win0_1.index t 1 * win0_1.size 1 = 0 ∧ win0_1.index t 2 * win0_1.size 2 = 0)
    ∧ (win0_2.index t 0 * win0_2.size 0 = t.val + 2 ∧ win0_2.index t 1 * win0_2.size 1 = 0 ∧ win0_2.index t 2 * win0_2.size 2 = 0)
    ∧ (win0_3.index t 0 * win0_3.size 0 = 0 ∧ win0_3.index t 1 * win0_3.size 1 = t.val + 2 ∧ win0_3.index t 2 * win0_3.size 2 = 0 ∧ win0_3.index t 3 * win0_3.size 3 = 0) := by
  decide +kernel
theorem geom1 : ∀ t : Fin grid1.N,
    (win1_0.index t 0 * win1_0.size 0 = t.val ∧ win1_0.index t 1 * win1_0.size 1 = 0 ∧ win1_0.index t 2 * win1_0.size 2 = 0)
    ∧ (win1_1.index t 0 * win1_1.size 0 = t.val ∧ win1_1.index t 1 * win1_1.size 1 = 0 ∧ win1_1.index t 2 * win1_1.size 2 = 0)
    ∧ (win1_2.index t 0 * win1_2.size 0 = t.val ∧ win1_2.index t 1 * win1_2.size 1 = 0 ∧ win1_2.index t 2 * win1_2.size 2 = 0) := by
  decide +kernel

/-- The batch a point of either call takes. -/
abbrev at0 (t : Fin cfg0.N) : Fin 16 := ⟨t.val + 2, by have : t.val < 14 := lt_of_lt_of_eq t.isLt N_0; omega⟩
abbrev at1 (t : Fin cfg1.N) : Fin 16 := ⟨t.val, by have : t.val < 2 := lt_of_lt_of_eq t.isLt N_1; omega⟩

section
variable (V : Vals Ideal)

theorem blk0_0_at (t : Fin cfg0.N) (l : Fin 128) : blk0_0 V d t (ix3 0 0 l) = (V d main_v0 : S16x1x128.Idx → BitVec 32) (ix3 (at0 t) 0 l) := by
  have g := (geom0 t).1
  refine congrArg (V d main_v0 : S16x1x128.Idx → BitVec 32) ?_
  funext a
  match a with
  | ⟨0, _⟩ => exact Fin.ext (by show win0_0.index t 0 * win0_0.size 0 + 1 * 0 = _; rw [g.1]; rfl)
  | ⟨1, _⟩ => exact Fin.ext (by show win0_0.index t 1 * win0_0.size 1 + 1 * 0 = _; rw [g.2.1]; rfl)
  | ⟨2, _⟩ => exact Fin.ext (by show win0_0.index t 2 * win0_0.size 2 + 1 * l.val = l.val; rw [g.2.2]; omega)
theorem blk0_1_at (t : Fin cfg0.N) (l : Fin 128) : blk0_1 V d t (ix3 0 0 l) = (V d main_v1 : S16x1x128.Idx → BitVec 32) (ix3 (at0 t) 0 l) := by
  have g := (geom0 t).2.1
  refine congrArg (V d main_v1 : S16x1x128.Idx → BitVec 32) ?_
  funext a
  match a with
  | ⟨0, _⟩ => exact Fin.ext (by show win0_1.index t 0 * win0_1.size 0 + 1 * 0 = _; rw [g.1]; rfl)
  | ⟨1, _⟩ => exact Fin.ext (by show win0_1.index t 1 * win0_1.size 1 + 1 * 0 = _; rw [g.2.1]; rfl)
  | ⟨2, _⟩ => exact Fin.ext (by show win0_1.index t 2 * win0_1.size 2 + 1 * l.val = l.val; rw [g.2.2]; omega)
theorem blk0_2_at (t : Fin cfg0.N) (l : Fin 128) (s : Fin 2048) : blk0_2 V d t (ix3 0 l s) = (V d main_arg2 : S16x128x2048.Idx → BitVec 32) (ix3 (at0 t) l s) := by
  have g := (geom0 t).2.2.1
  refine congrArg (V d main_arg2 : S16x128x2048.Idx → BitVec 32) ?_
  funext a
  match a with
  | ⟨0, _⟩ => exact Fin.ext (by show win0_2.index t 0 * win0_2.size 0 + 1 * 0 = _; rw [g.1]; rfl)
  | ⟨1, _⟩ => exact Fin.ext (by show win0_2.index t 1 * win0_2.size 1 + 1 * l.val = l.val; rw [g.2.1]; omega)
  | ⟨2, _⟩ => exact Fin.ext (by show win0_2.index t 2 * win0_2.size 2 + 1 * s.val = s.val; rw [g.2.2]; omega)
theorem blk0_3_at (t : Fin cfg0.N) (b : Fin 4) (l : Fin 128) (s : Fin 2048) :
    blk0_3 V d t (ix4 b 0 l s) = (V d main_arg3 : S4x16x128x2048.Idx → EReal) (ix4 b (at0 t) l s) := by
  have g := (geom0 t).2.2.2
  refine congrArg (V d main_arg3 : S4x16x128x2048.Idx → EReal) ?_
  funext a
  match a with
  | ⟨0, _⟩ => exact Fin.ext (by show win0_3.index t 0 * win0_3.size 0 + 1 * b.val = b.val; rw [g.1]; omega)
  | ⟨1, _⟩ => exact Fin.ext (by show win0_3.index t 1 * win0_3.size 1 + 1 * 0 = _; rw [g.2.1]; rfl)
  | ⟨2, _⟩ => exact Fin.ext (by show win0_3.index t 2 * win0_3.size 2 + 1 * l.val = l.val; rw [g.2.2.1]; omega)
  | ⟨3, _⟩ => exact Fin.ext (by show win0_3.index t 3 * win0_3.size 3 + 1 * s.val = s.val; rw [g.2.2.2]; omega)
theorem blk1_0_at (t : Fin cfg1.N) (l : Fin 128) : blk1_0 V d t (ix3 0 0 l) = (V d main_v5 : S16x1x128.Idx → BitVec 32) (ix3 (at1 t) 0 l) := by
  have g := (geom1 t).1
  refine congrArg (V d main_v5 : S16x1x128.Idx → BitVec 32) ?_
  funext a
  match a with
  | ⟨0, _⟩ => exact Fin.ext (by show win1_0.index t 0 * win1_0.size 0 + 1 * 0 = _; rw [g.1]; rfl)
  | ⟨1, _⟩ => exact Fin.ext (by show win1_0.index t 1 * win1_0.size 1 + 1 * 0 = _; rw [g.2.1]; rfl)
  | ⟨2, _⟩ => exact Fin.ext (by show win1_0.index t 2 * win1_0.size 2 + 1 * l.val = l.val; rw [g.2.2]; omega)
theorem blk1_1_at (t : Fin cfg1.N) (l : Fin 128) : blk1_1 V d t (ix3 0 0 l) = (V d main_v6 : S16x1x128.Idx → BitVec 32) (ix3 (at1 t) 0 l) := by
  have g := (geom1 t).2.1
  refine congrArg (V d main_v6 : S16x1x128.Idx → BitVec 32) ?_
  funext a
  match a with
  | ⟨0, _⟩ => exact Fin.ext (by show win1_1.index t 0 * win1_1.size 0 + 1 * 0 = _; rw [g.1]; rfl)
  | ⟨1, _⟩ => exact Fin.ext (by show win1_1.index t 1 * win1_1.size 1 + 1 * 0 = _; rw [g.2.1]; rfl)
  | ⟨2, _⟩ => exact Fin.ext (by show win1_1.index t 2 * win1_1.size 2 + 1 * l.val = l.val; rw [g.2.2]; omega)
theorem blk1_2_at (t : Fin cfg1.N) (l : Fin 128) (s : Fin 2048) : blk1_2 V d t (ix3 0 l s) = (V d main_arg2 : S16x128x2048.Idx → BitVec 32) (ix3 (at1 t) l s) := by
  have g := (geom1 t).2.2
  refine congrArg (V d main_arg2 : S16x128x2048.Idx → BitVec 32) ?_
  funext a
  match a with
  | ⟨0, _⟩ => exact Fin.ext (by show win1_2.index t 0 * win1_2.size 0 + 1 * 0 = _; rw [g.1]; rfl)
  | ⟨1, _⟩ => exact Fin.ext (by show win1_2.index t 1 * win1_2.size 1 + 1 * l.val = l.val; rw [g.2.1]; omega)
  | ⟨2, _⟩ => exact Fin.ext (by show win1_2.index t 2 * win1_2.size 2 + 1 * s.val = s.val; rw [g.2.2]; omega)

end

/-! ## The values -/

variable (a : Fin 4 → Fin 16 → Fin 128 → Fin 2048 → ℝ)

/-- Batch `i`'s loss. -/
abbrev lossOf (i : Fin 16) : ℝ := loss (inV m d i) (inG m d i) (inY m d i) fun b => a b i

variable (hv : ∀ i l, (inV m d i l).toNat < 128) (hg : ∀ i l, (inG m d i l).toNat < 128) (ha : ∀ b i l s, inA m d b i l s = ((a b i l s : ℝ) : EReal))
include hv hg ha

theorem tileAt_eq (t : Fin cfg0.N) (y : S8x128.Idx) : tileAt (vals (W1 m)) d t y = ((lossOf m d a (at0 t) : ℝ) : EReal) := by
  have e0 (l : Fin 128) : blk0_0 (vals (W1 m)) d t (ix3 0 0 l) = inV m d (at0 t) l := (blk0_0_at d _ t l).trans (w1_v m d _ l)
  have e1 (l : Fin 128) : blk0_1 (vals (W1 m)) d t (ix3 0 0 l) = inG m d (at0 t) l := (blk0_1_at d _ t l).trans (w1_g m d _ l)
  have e2 (l : Fin 128) (s : Fin 2048) : blk0_2 (vals (W1 m)) d t (ix3 0 l s) = inY m d (at0 t) l s := (blk0_2_at d _ t l s).trans (w1_y m d _ l s)
  have e3 (b : Fin 4) (l : Fin 128) (s : Fin 2048) : blk0_3 (vals (W1 m)) d t (ix4 b 0 l s) = ((a b (at0 t) l s : ℝ) : EReal) :=
    (blk0_3_at d _ t b l s).trans ((w1_a m d b _ l s).trans (ha b _ l s))
  refine (partTile_eq _ _ _ _ (fun l => by rw [e0]; exact hv _ l) (fun l => by rw [e1]; exact hg _ l) (fun b => a b (at0 t)) e3 y).trans ?_
  simp only [e0, e1, e2]

theorem chain_eq (y : S8x128.Idx) : ∀ (n : ℕ) (h : n < cfg0.N),
    chain (vals (W1 m)) d n h y = ((∑ t : Fin (n + 1), lossOf m d a (at0 ⟨t.val, lt_of_lt_of_le t.isLt h⟩) : ℝ) : EReal)
  | 0, h => by
    rw [Fin.sum_univ_one]
    exact tileAt_eq m d a hv hg ha _ y
  | n + 1, h => by
    rw [Fin.sum_univ_castSucc, EReal.coe_add]
    exact congrArg₂ (fun u v : EReal => u + v) (chain_eq y n _) (tileAt_eq m d a hv hg ha _ y)

theorem partial_eq (y : S8x128.Idx) : partial_ (vals (W1 m)) d y = ((∑ t : Fin 14, lossOf m d a ⟨t.val + 2, by omega⟩ : ℝ) : EReal) :=
  chain_eq m d a hv hg ha y 13 _

omit hg ha in
theorem masks_at (i : Fin 2) (l : Fin 128) : masks (vals (W3 m)) d (ix3 i 0 l) = ((leads (inV m d (i.castLE (by decide))) l : ℝ) : EReal) := by
  have e0 (l : Fin 128) : blk1_0 (vals (W3 m)) d ⟨i.val, lt_of_lt_of_eq i.isLt N_1.symm⟩ (ix3 0 0 l) = inV m d (i.castLE (by decide)) l :=
    (blk1_0_at d _ _ l).trans (w3_v m d _ l)
  refine (mask_row (blk1_0 (vals (W3 m)) d ⟨i.val, lt_of_lt_of_eq i.isLt N_1.symm⟩) (fun l => by rw [e0]; exact hv _ l) l).trans ?_
  simp only [e0]

omit hv ha in
theorem signs_at (i : Fin 2) (l : Fin 128) (s : Fin 2048) : signs (vals (W3 m)) d (ix3 i l s)
    = ((flip (inY m d (i.castLE (by decide)) (rowOf (inG m d (i.castLE (by decide)) l)) s) : ℝ) : EReal) := by
  have e1 (l : Fin 128) : blk1_1 (vals (W3 m)) d ⟨i.val, lt_of_lt_of_eq i.isLt N_1.symm⟩ (ix3 0 0 l) = inG m d (i.castLE (by decide)) l :=
    (blk1_1_at d _ _ l).trans (w3_g m d _ l)
  have e2 (l : Fin 128) (s : Fin 2048) : blk1_2 (vals (W3 m)) d ⟨i.val, lt_of_lt_of_eq i.isLt N_1.symm⟩ (ix3 0 l s) = inY m d (i.castLE (by decide)) l s :=
    (blk1_2_at d _ _ l s).trans (w3_y m d _ l s)
  refine (sign_row (blk1_1 (vals (W3 m)) d ⟨i.val, lt_of_lt_of_eq i.isLt N_1.symm⟩) (blk1_2 (vals (W3 m)) d ⟨i.val, lt_of_lt_of_eq i.isLt N_1.symm⟩)
    (fun l => by rw [e1]; exact hg _ l) l s).trans ?_
  simp only [e1, e2]

/-- The flat arrays the SparseCore call takes, as numbers at a position. -/
def flatM (n : ℕ) : ℝ := leads (inV m d (Fin.ofNat 16 (n / 128))) (Fin.ofNat 128 n)
def flatS (n : ℕ) : ℝ := flip (inY m d (Fin.ofNat 16 (n / 262144)) (rowOf (inG m d (Fin.ofNat 16 (n / 262144)) (Fin.ofNat 128 (n / 2048)))) (Fin.ofNat 2048 n))
omit hv hg ha in
def flatA (n : ℕ) : ℝ := a (Fin.ofNat 4 (n / 4194304)) (Fin.ofNat 16 (n / 262144)) (Fin.ofNat 128 (n / 2048)) (Fin.ofNat 2048 n)

omit hg ha in
theorem w5_mask (n : Fin 256) : (W5 m d (main_v8 : DevRef τ sig) : S256.Idx → EReal) (ix1 n) = ((flatM m d n.val : ℝ) : EReal) := by
  unfold W5 opsC
  after_reads_at
  rw [w4_mask]
  refine (masks_at m d hv ⟨n.val / 128, by omega⟩ ⟨n.val % 128, by omega⟩).trans ?_
  have e : ((⟨n.val / 128, by omega⟩ : Fin 2).castLE (by decide) : Fin 16) = Fin.ofNat 16 (n.val / 128) := Fin.ext (by
    show n.val / 128 = n.val / 128 % 16; omega)
  rw [e]
  rfl

omit hv ha in
theorem w5_sign (n : Fin 524288) : (W5 m d (main_v9 : DevRef τ sig) : S524288.Idx → EReal) (ix1 n) = ((flatS m d n.val : ℝ) : EReal) := by
  unfold W5 opsC
  after_reads_at
  rw [w4_sign]
  refine (signs_at m d hg ⟨n.val / 262144, by omega⟩ ⟨n.val / 2048 % 128, by omega⟩ ⟨n.val % 2048, by omega⟩).trans ?_
  have e : ((⟨n.val / 262144, by omega⟩ : Fin 2).castLE (by decide) : Fin 16) = Fin.ofNat 16 (n.val / 262144) := Fin.ext (by
    show n.val / 262144 = n.val / 262144 % 16; omega)
  rw [e]
  rfl

omit hv hg in
theorem w5_att (n : Fin 16777216) : (W5 m d (main_v10 : DevRef τ sig) : S16777216.Idx → EReal) (ix1 n) = ((flatA a n.val : ℝ) : EReal) := by
  unfold W5 opsC
  after_reads_at
  rw [w4_ne m d _ (by decide) (by decide)]
  refine (w3_a m d _ _ _ _).trans ((ha _ _ _ _).trans ?_)
  have e : (⟨n.val / 4194304, by omega⟩ : Fin 4) = Fin.ofNat 4 (n.val / 4194304) := Fin.ext (by
    show n.val / 4194304 = n.val / 4194304 % 4; omega)
  rw [e]
  rfl

end Cert.Proof
-- ==== Proof.Total.lean ====
/-
  The kernel's last steps: the tiles' lanes summed, the TensorCore's part added, and the mean taken.
-/
module

public import proofs.«01_k».proof.Proof.Kernel

@[expose] public section

noncomputable section

namespace Cert.Proof

open Cert.KernelIdeal Cert.KernelIdeal.Gen
open Idealize.ShloMosaic Idealize.ShloMosaic.TcCoe Idealize.ShloMosaic.StableHlo

variable (m : (ℓ : Loc nD τ sig) → Buf (Elt Ideal) ℓ) (d : Dev nD) (a : Fin 4 → Fin 16 → Fin 128 → Fin 2048 → ℝ)

/-- A position's loss off the flat arrays is its loss off the inputs. -/
theorem posLoss_eq (i : Fin 2) (l : Fin 128) : posLoss (flatM m d) (flatS m d) (flatA a) (128 * i.val + l.val)
    = ∑ b, hinge (pull (inG m d (i.castLE (by decide)) l) (inY m d (i.castLE (by decide))) (a b (i.castLE (by decide)) l)) * leads (inV m d (i.castLE (by decide))) l
      + 4 * margin * (1 - leads (inV m d (i.castLE (by decide))) l) := by
  have hi := i.isLt
  have hl := l.isLt
  have e0 : flatM m d (128 * i.val + l.val) = leads (inV m d (i.castLE (by decide))) l := by
    unfold flatM
    rw [show Fin.ofNat 16 ((128 * i.val + l.val) / 128) = i.castLE (by decide) from Fin.ext (by show (128 * i.val + l.val) / 128 % 16 = i.val; omega),
      show Fin.ofNat 128 (128 * i.val + l.val) = l from Fin.ext (by show (128 * i.val + l.val) % 128 = l.val; omega)]
  have e1 (s : Fin 2048) : flatS m d (2048 * (128 * i.val + l.val) + s.val)
      = flip (inY m d (i.castLE (by decide)) (rowOf (inG m d (i.castLE (by decide)) l)) s) := by
    have hs := s.isLt
    unfold flatS
    rw [show Fin.ofNat 16 ((2048 * (128 * i.val + l.val) + s.val) / 262144) = i.castLE (by decide) from Fin.ext (by show (2048 * (128 * i.val + l.val) + s.val) / 262144 % 16 = i.val; omega),
      show Fin.ofNat 128 ((2048 * (128 * i.val + l.val) + s.val) / 2048) = l from Fin.ext (by show (2048 * (128 * i.val + l.val) + s.val) / 2048 % 128 = l.val; omega),
      show Fin.ofNat 2048 (2048 * (128 * i.val + l.val) + s.val) = s from Fin.ext (by show (2048 * (128 * i.val + l.val) + s.val) % 2048 = s.val; omega)]
  have e2 (b : Fin 4) (s : Fin 2048) : flatA a (4194304 * b.val + (2048 * (128 * i.val + l.val) + s.val)) = a b (i.castLE (by decide)) l s := by
    have hs := s.isLt
    have hb := b.isLt
    unfold flatA
    generalize hn : 4194304 * b.val + (2048 * (128 * i.val + l.val) + s.val) = n
    rw [show Fin.ofNat 4 (n / 4194304) = b from Fin.ext (by show n / 4194304 % 4 = b.val; omega),
      show Fin.ofNat 16 (n / 262144) = i.castLE (by decide) from Fin.ext (by show n / 262144 % 16 = i.val; omega),
      show Fin.ofNat 128 (n / 2048) = l from Fin.ext (by show n / 2048 % 128 = l.val; omega),
      show Fin.ofNat 2048 n = s from Fin.ext (by show n % 2048 = s.val; omega)]
  unfold posLoss
  rw [e0, Finset.sum_range (n := 4)]
  simp only [Finset.sum_range (n := 2048), e1, e2, pull]

/-- The positions' losses of a batch make the batch's loss. -/
theorem batch_eq (i : Fin 2) : ∑ l : Fin 128, posLoss (flatM m d) (flatS m d) (flatA a) (128 * i.val + l.val) = lossOf m d a (i.castLE (by decide)) := by
  simp only [posLoss_eq]
  rw [Finset.sum_add_distrib, Finset.sum_comm, ← Finset.mul_sum, Finset.sum_sub_distrib]
  simp only [lossOf, loss, Finset.sum_const, Finset.card_univ, Fintype.card_fin, nsmul_eq_mul]
  push_cast
  ring

variable (hv : ∀ i l, (inV m d i l).toNat < 128) (hg : ∀ i l, (inG m d i l).toNat < 128) (ha : ∀ b i l s, inA m d b i l s = ((a b i l s : ℝ) : EReal))
include hv hg ha

/-- All the tiles' lanes together are the first two batches' losses. -/
theorem lanes_sum : ∑ w : Fin 32, ∑ x : Fin 16, (result (B m) d (ix2 w x) : EReal)
    = ((∑ i : Fin 2, lossOf m d a (i.castLE (by decide)) : ℝ) : EReal) := by
  have e (w : Fin 32) (x : Fin 16) : (result (B m) d (ix2 w x) : EReal)
      = (((if x = 0 then ∑ k ∈ Finset.range 8, posLoss (flatM m d) (flatS m d) (flatA a) (8 * w.val + k) else 0 : ℝ)) : EReal) := by
    refine (tile_lane (M := W5 m d (main_v8 : DevRef τ sig)) (S := W5 m d (main_v9 : DevRef τ sig)) (A := W5 m d (main_v10 : DevRef τ sig))
      ⟨w.val % 2, by omega⟩ ⟨w.val / 2, by omega⟩ (w5_mask m d hv) (w5_sign m d hg) (w5_att m d a ha) x).trans ?_
    rw [show 2 * (w.val / 2) + w.val % 2 = w.val by omega]
  simp only [e, coe_sum, Finset.sum_ite_eq', Finset.mem_univ, if_true]
  refine congrArg _ ?_
  rw [← Finset.sum_range (n := 32) fun w => ∑ k ∈ Finset.range 8, posLoss (flatM m d) (flatS m d) (flatA a) (8 * w + k), ← sum_blocks,
    show 32 * 8 = 2 * 128 from rfl, sum_blocks, Finset.sum_range (n := 2)]
  refine Finset.sum_congr rfl fun i _ => ?_
  rw [Finset.sum_range, batch_eq]

/-- The kernel's result is the mean loss. -/
theorem kernel_value : (W7 m d (main_v14 : DevRef τ sig) : S_.Idx → EReal)
    = fun _ => ((total (inV m d) (inG m d) (inY m d) a : ℝ) : EReal) := by
  funext j
  unfold W7 opsD
  after_reads_at
  have e4 : (W6 m d (main_v4 : DevRef τ sig) : S_.Idx → EReal) j = ((∑ t : Fin 14, lossOf m d a ⟨t.val + 2, by omega⟩ : ℝ) : EReal) := by
    rw [W6_ne m d _ (devRef_ne_of_ne (by decide))]
    unfold W5 opsC
    after_reads_at
    rw [w4_ne m d _ (by decide) (by decide)]
    exact (w3_v4 m d j).trans (partial_eq m d a hv hg ha _)
  have e11 : W6 m d (main_v11 : DevRef τ sig) = result (B m) d := Function.update_self ..
  rw [e11, lanes_sum m d a hv hg ha]
  rw [e4]
  rw [word_8192, Ideal.div_coe (by norm_num), ← EReal.coe_add, ← EReal.coe_mul]
  refine congrArg _ ?_
  unfold total
  rw [Fin.sum_univ_succ (n := 15), Fin.sum_univ_succ (n := 14), Fin.sum_univ_two]
  have e : (fun t : Fin 14 => lossOf m d a ⟨t.val + 2, by omega⟩) = fun t : Fin 14 => lossOf m d a t.succ.succ := rfl
  rw [e]
  show ((∑ t : Fin 14, lossOf m d a t.succ.succ) + (lossOf m d a 0 + lossOf m d a 1)) * (1 / 8192)
    = (lossOf m d a 0 + (lossOf m d a 1 + ∑ t : Fin 14, lossOf m d a t.succ.succ)) / 8192
  ring

end Cert.Proof
-- ==== Proof.Gather.lean ====
module

public import proofs.«01_k».proof.Proof.Ref
public import proofs.«01_k».proof.Proof.Spec
public import Idealize.ShloMosaic.Lib.StableHlo.ReadAt

/-!
  The reference's three gathers, read at one index: where the start index is the word of a
  position below the axis' length, the gather takes the element at that position.
-/

@[expose] public section

noncomputable section

namespace Cert.Proof.R

open Cert.ReferenceIdeal Cert.ReferenceIdeal.Gen
open Idealize.ShloMosaic Idealize.ShloMosaic.TcCoe Idealize.ShloMosaic.StableHlo

variable {α : Type}

/-- Clamping the word of a position below 128 leaves the position. -/
theorem clamp_word (n : Nat) (h : n < 128) : min (BitVec.ofNat 32 n).toInt.toNat 127 = n := by
  rw [BitVec.toInt_eq_toNat_of_lt (by rw [BitVec.toNat_ofNat]; omega), Int.toNat_natCast, BitVec.toNat_ofNat,
    Nat.mod_eq_of_lt (by omega)]
  omega

/-- Clamping the word of a position below 16 leaves the position. -/
theorem clamp_batch (n : Nat) (h : n < 16) : min (BitVec.ofNat 32 n).toInt.toNat 15 = n := by
  rw [BitVec.toInt_eq_toNat_of_lt (by rw [BitVec.toNat_ofNat]; omega), Int.toNat_natCast, BitVec.toNat_ofNat,
    Nat.mod_eq_of_lt (by omega)]
  omega

theorem gather_obj (x : S16x128.Idx → α) (idx : IVec S16x128x1 32) (i : Fin 16) (j k : Fin 128)
    (h : idx (ix3 i j (0 : Fin 1)) = BitVec.ofNat 32 k.val) :
    Host.gather gather_S16x128_S16x128x1_S16x128_n_1_0_0_1_2_11 x idx (ix2 i j) = x (ix2 i k) := by
  unfold Host.gather
  refine congrArg x (funext fun a => Fin.ext ?_)
  match a with
  | ⟨0, _⟩ =>
    show 0 + i.val + 0 = i.val
    omega
  | ⟨1, _⟩ =>
    show min (idx _).toInt.toNat 127 + 0 + 0 = k.val
    rw [show idx _ = BitVec.ofNat 32 k.val from (congrArg idx (by
      funext b
      match b with
      | ⟨0, _⟩ => rfl
      | ⟨1, _⟩ => rfl
      | ⟨2, _⟩ => rfl)).trans h, clamp_word _ k.isLt]
    rfl

theorem gather_syb (x : S16x128x2048.Idx → α) (idx : IVec S16x128x2 32) (i : Fin 16) (j : Fin 128) (s : Fin 2048)
    (i' : Fin 16) (k : Fin 128)
    (h0 : idx (ix3 i j (0 : Fin 2)) = BitVec.ofNat 32 i'.val)
    (h1 : idx (ix3 i j (1 : Fin 2)) = BitVec.ofNat 32 k.val) :
    Host.gather gather_S16x128x2048_S16x128x2_S16x128x2048_2_01_n_n_01_2_112048 x idx (ix3 i j s)
      = x (ix3 i' k s) := by
  unfold Host.gather
  refine congrArg x (funext fun a => Fin.ext ?_)
  match a with
  | ⟨0, _⟩ =>
    show min (idx _).toInt.toNat 15 + 0 + 0 = i'.val
    rw [show idx _ = BitVec.ofNat 32 i'.val from (congrArg idx (by
      funext b
      match b with
      | ⟨0, _⟩ => rfl
      | ⟨1, _⟩ => rfl
      | ⟨2, _⟩ => rfl)).trans h0, clamp_batch _ i'.isLt]
    rfl
  | ⟨1, _⟩ =>
    show min (idx _).toInt.toNat 127 + 0 + 0 = k.val
    rw [show idx _ = BitVec.ofNat 32 k.val from (congrArg idx (by
      funext b
      match b with
      | ⟨0, _⟩ => rfl
      | ⟨1, _⟩ => rfl
      | ⟨2, _⟩ => rfl)).trans h1, clamp_word _ k.isLt]
    rfl
  | ⟨2, _⟩ =>
    show 0 + 0 + s.val = s.val
    omega

theorem gather_att (x : S4x16x128x2048.Idx → α) (idx : IVec S16x128x1 32) (b : Fin 4) (i : Fin 16) (j : Fin 128)
    (s : Fin 2048) (k : Fin 128) (h : idx (ix3 i j (0 : Fin 1)) = BitVec.ofNat 32 k.val) :
    Host.gather gather_S4x16x128x2048_S16x128x1_S4x16x128x2048_03_2_1_0_2_2_4112048 x idx (ix4 b i j s)
      = x (ix4 b i k s) := by
  unfold Host.gather
  refine congrArg x (funext fun a => Fin.ext ?_)
  match a with
  | ⟨0, _⟩ =>
    show 0 + 0 + b.val = b.val
    omega
  | ⟨1, _⟩ =>
    show 0 + i.val + 0 = i.val
    omega
  | ⟨2, _⟩ =>
    show min (idx _).toInt.toNat 127 + 0 + 0 = k.val
    rw [show idx _ = BitVec.ofNat 32 k.val from (congrArg idx (by
      funext b
      match b with
      | ⟨0, _⟩ => rfl
      | ⟨1, _⟩ => rfl
      | ⟨2, _⟩ => rfl)).trans h, clamp_word _ k.isLt]
    rfl
  | ⟨3, _⟩ =>
    show 0 + 0 + s.val = s.val
    omega

end Cert.Proof.R
-- ==== Proof.Match.lean ====
module

public import proofs.«01_k».proof.Proof.Ref
public import proofs.«01_k».proof.Proof.Spec
public import Idealize.ShloMosaic.Lib.StableHlo.ReadAt

/-!
  The reference's search for a label: over the truth values of a list of positions, the pair the
  reduction keeps is the first true position, or position zero when none is true.
-/

@[expose] public section

noncomputable section

namespace Cert.Proof.R

open Cert.ReferenceIdeal Cert.ReferenceIdeal.Gen
open Idealize.ShloMosaic Idealize.ShloMosaic.TcCoe Idealize.ShloMosaic.StableHlo

/-- What the reduction has kept, `r`, after the pairs of the list `L`: a true pair of the list with the least
    position among the true ones; or, no pair being true, a false one whose position is zero or the list's. -/
def Kept (L : List (BitVec 1 × BitVec 32)) (r : BitVec 1 × BitVec 32) : Prop :=
  (r.1 = 1#1 ∧ r ∈ L ∧ ∀ p ∈ L, p.1 = 1#1 → r.2.toNat ≤ p.2.toNat) ∨
  (r.1 = 0#1 ∧ (∀ p ∈ L, p.1 = 0#1) ∧ r.2.toNat < 128)

theorem slt_small (a b : BitVec 32) (ha : a.toNat < 128) (hb : b.toNat < 128) :
    IntOp.cmpi .slt a b = if a.toNat < b.toNat then 1#1 else 0#1 := by
  have e : (a.slt b) = decide (a.toNat < b.toNat) := by
    rw [BitVec.slt, BitVec.toInt_eq_toNat_of_lt (by omega), BitVec.toInt_eq_toNat_of_lt (by omega)]
    simp
  simp only [IntOp.cmpi, e]
  by_cases h : a.toNat < b.toNat <;> simp [h]

/-- One step of the reduction. -/
theorem reducer_step (a b : BitVec 1 × BitVec 32) (ha : a.2.toNat < 128) (hb : b.2.toNat < 128) :
    reducer_argmax_i1_i32 a b
      = (if a.1 = 1#1 ∧ b.1 = 0#1 then a else
          if a.1 = b.1 ∧ a.2.toNat < b.2.toNat then a else b) := by
  obtain ⟨p, x⟩ := a
  obtain ⟨q, y⟩ := b
  unfold reducer_argmax_i1_i32
  simp only [slt_small x y ha hb]
  have bit : ∀ z : BitVec 1, z = 0#1 ∨ z = 1#1 := by decide
  have hp := bit p
  have hq := bit q
  rcases hp with rfl | rfl <;> rcases hq with rfl | rfl <;> by_cases hxy : x.toNat < y.toNat <;>
    simp [hxy, IntOp.cmpi, IntOp.ori, IntOp.andi, Scalar.select]

theorem kept_foldl (L : List (BitVec 1 × BitVec 32)) (hL : ∀ p ∈ L, p.2.toNat < 128) :
    Kept L (L.foldl reducer_argmax_i1_i32 (0#1, 0#32)) := by
  induction L using List.reverseRecOn with
  | nil => exact Or.inr ⟨rfl, by simp, by decide⟩
  | append_singleton L q ih =>
    rw [List.foldl_append]
    simp only [List.foldl_cons, List.foldl_nil]
    have ih := ih fun p hp => hL p (List.mem_append_left _ hp)
    generalize List.foldl reducer_argmax_i1_i32 (0#1, 0#32) L = r at ih
    have hq := hL q (by simp)
    have hr : r.2.toNat < 128 := by
      rcases ih with ⟨-, h, -⟩ | ⟨-, -, h⟩
      · exact hL r (List.mem_append_left _ h)
      · exact h
    rw [reducer_step r q hr hq]
    have hq1 : q.1 = 0#1 ∨ q.1 = 1#1 := by generalize q.1 = z; revert z; decide
    rcases ih with ⟨h1, hm, hle⟩ | ⟨h0, hall, -⟩
    · rcases hq1 with q0 | q1
      · rw [if_pos ⟨h1, q0⟩]
        refine Or.inl ⟨h1, List.mem_append_left _ hm, fun p hp p1 => ?_⟩
        rcases List.mem_append.1 hp with hp | hp
        · exact hle p hp p1
        · rw [List.mem_singleton.1 hp, q0] at p1
          exact absurd p1 (by decide)
      · rw [if_neg (by rw [q1]; exact fun h => absurd h.2 (by decide))]
        by_cases hlt : r.2.toNat < q.2.toNat
        · rw [if_pos ⟨h1.trans q1.symm, hlt⟩]
          refine Or.inl ⟨h1, List.mem_append_left _ hm, fun p hp p1 => ?_⟩
          rcases List.mem_append.1 hp with hp | hp
          · exact hle p hp p1
          · rw [List.mem_singleton.1 hp]; omega
        · rw [if_neg fun h => hlt h.2]
          refine Or.inl ⟨q1, by simp, fun p hp p1 => ?_⟩
          rcases List.mem_append.1 hp with hp | hp
          · exact (Nat.le_of_not_lt hlt).trans (hle p hp p1)
          · rw [List.mem_singleton.1 hp]
    · rw [if_neg (by rw [h0]; exact fun h => absurd h.1 (by decide))]
      rcases hq1 with q0 | q1
      · have hall' : ∀ p ∈ L ++ [q], p.1 = 0#1 := fun p hp => by
          rcases List.mem_append.1 hp with hp | hp
          · exact hall p hp
          · rw [List.mem_singleton.1 hp]; exact q0
        split_ifs
        · exact Or.inr ⟨h0, hall', hr⟩
        · exact Or.inr ⟨q0, hall', hq⟩
      · rw [if_neg (by rw [h0, q1]; exact fun h => absurd h.1 (by decide))]
        refine Or.inl ⟨q1, by simp, fun p hp p1 => ?_⟩
        rcases List.mem_append.1 hp with hp | hp
        · rw [hall p hp] at p1; exact absurd p1 (by decide)
        · rw [List.mem_singleton.1 hp]

/-- The position the search leaves at `(i, j)`, over truth values `x` and each position's own word: below 128, and,
    some position of the column being true, the first true one. -/
theorem argmax_at (x : S16x128x128.Idx → BitVec 1) (i : Fin 16) (j : Fin 128) :
    ∃ k : Fin 128,
      (Host.reduce2 reducer_argmax_i1_i32 x (iotaInDim S16x128x128 32 1) (constantI S_ 1 0#1) (constantI S_ 32 0#32)
        reducesTo_S16x128x128_S16x128_d1 h_S_ (ix2 i j)).2 = BitVec.ofNat 32 k.val ∧
      ((∃ l : Fin 128, x (ix3 i l j) = 1#1) →
        x (ix3 i k j) = 1#1 ∧ ∀ l : Fin 128, l < k → x (ix3 i l j) ≠ 1#1) := by
  rw [Host.reduce2_eq_foldl_fiber]
  have hmem : ∀ p, p ∈ Host.argReduceFiber x (iotaInDim S16x128x128 32 1) reducesTo_S16x128x128_S16x128_d1 (ix2 i j) ↔
      ∃ l : Fin 128, p = (x (ix3 i l j), BitVec.ofNat 32 l.val) := by
    intro p
    unfold Host.argReduceFiber
    simp only [List.mem_map, List.mem_filter, List.mem_finRange, true_and, decide_eq_true_eq]
    constructor
    · rintro ⟨n, hn, rfl⟩
      generalize S16x128x128.rowMajor.symm n = u at hn
      have h0 : (u 0).val = i.val := congrArg Fin.val (congrFun hn 0)
      have h2 : (u 2).val = j.val := congrArg Fin.val (congrFun hn 1)
      have hu : u = ix3 i (u 1) j := by
        funext a
        match a with
        | ⟨0, _⟩ => exact Fin.ext h0
        | ⟨1, _⟩ => rfl
        | ⟨2, _⟩ => exact Fin.ext h2
      exact ⟨u 1, Prod.ext (congrArg x hu) rfl⟩
    · rintro ⟨l, rfl⟩
      refine ⟨S16x128x128.rowMajor (ix3 i l j), ?_, ?_⟩
      · rw [Equiv.symm_apply_apply]
        funext a
        match a with
        | ⟨0, _⟩ => rfl
        | ⟨1, _⟩ => rfl
      · rw [Equiv.symm_apply_apply]
        rfl
  have hw : ∀ l : Fin 128, (BitVec.ofNat 32 l.val).toNat = l.val := fun l => by
    rw [BitVec.toNat_ofNat, Nat.mod_eq_of_lt (by omega)]
  have hk := kept_foldl (Host.argReduceFiber x (iotaInDim S16x128x128 32 1) reducesTo_S16x128x128_S16x128_d1 (ix2 i j))
    (fun p hp => by obtain ⟨l, rfl⟩ := (hmem p).1 hp; rw [hw]; exact l.isLt)
  change ∃ k : Fin 128, (List.foldl reducer_argmax_i1_i32 (0#1, 0#32) _).2 = _ ∧ _
  generalize List.foldl reducer_argmax_i1_i32 (0#1, 0#32)
    (Host.argReduceFiber x (iotaInDim S16x128x128 32 1) reducesTo_S16x128x128_S16x128_d1 (ix2 i j)) = r at hk ⊢
  rcases hk with ⟨h1, hm, hle⟩ | ⟨h0, hall, hlt⟩
  · obtain ⟨k, rfl⟩ := (hmem r).1 hm
    refine ⟨k, rfl, fun _ => ⟨h1, fun l hl hx => ?_⟩⟩
    have h := hle _ ((hmem _).2 ⟨l, rfl⟩) hx
    rw [hw, hw] at h
    exact absurd (Fin.lt_def.1 hl) (by omega)
  · refine ⟨⟨r.2.toNat, hlt⟩, by simp, fun ⟨l, hl⟩ => ?_⟩
    exact absurd ((hall _ ((hmem _).2 ⟨l, rfl⟩)).symm.trans hl) (by decide)

end Cert.Proof.R
-- ==== Proof.Stage.lean ====
/-
  What each stage of the reference leaves, read at one position.
-/
module

public import proofs.«01_k».proof.Proof.Gather
public import proofs.«01_k».proof.Proof.Match

@[expose] public section

noncomputable section

namespace Cert.Proof.R

open Cert.ReferenceIdeal Cert.ReferenceIdeal.Gen
open Idealize.ShloMosaic Idealize.ShloMosaic.TcCoe Idealize.ShloMosaic.StableHlo

variable (V : Valuation τ sig (Elt Ideal))

theorem cmpi_word (a b : BitVec 32) : IntOp.cmpi .eq a b = 1#1 ↔ a = b := by
  by_cases h : a = b
  · subst h; simp [IntOp.cmpi]
  · have h' : (a == b) = false := by simpa using h
    simp [IntOp.cmpi, h, h']

theorem fold_ori {ι : Type*} [DecidableEq ι] (s : Finset ι) (f : ι → BitVec 1) :
    s.fold IntOp.ori (0#1) f = 1#1 ↔ ∃ i ∈ s, f i = 1#1 := by
  have bit : ∀ z w : BitVec 1, IntOp.ori z w = 1#1 ↔ z = 1#1 ∨ w = 1#1 := by decide
  induction s using Finset.induction_on with
  | empty => simp
  | insert a s ha ih => rw [Finset.fold_insert ha, bit]; exact (or_congr Iff.rfl ih).trans (by simp)

/-- The flag of a label: whether some position holds it. -/
theorem present_at (i : Fin 16) (j : Fin 128) :
    (after opsPresent V (main_v6 : DevRef τ sig) : S16x128.Idx → BitVec 1) (ix2 i j) = 1#1 ↔
      ∃ l : Fin 128, (V (main_arg1 : DevRef τ sig) : S16x128.Idx → BitVec 32) (ix2 i l) = BitVec.ofNat 32 j.val := by
  have e : (after opsPresent V (main_v6 : DevRef τ sig) : S16x128.Idx → BitVec 1) (ix2 i j)
      = Finset.fold IntOp.ori (0#1) (fun x : Fin 128 => IntOp.cmpi .eq
          ((V (main_arg1 : DevRef τ sig) : S16x128.Idx → BitVec 32) (ix2 i x)) (BitVec.ofNat 32 j.val)) Finset.univ := by
    after_reads_at
  rw [e, fold_ori]
  simp only [Finset.mem_univ, true_and, cmpi_word]

/-- The position found for a label: the first that holds it, when one does. -/
theorem spot_at (i : Fin 16) (j : Fin 128) :
    ∃ k : Fin 128, (after opsPresent V (main_v7 : DevRef τ sig) : S16x128.Idx → BitVec 32) (ix2 i j) = BitVec.ofNat 32 k.val ∧
      ((∃ l : Fin 128, (V (main_arg1 : DevRef τ sig) : S16x128.Idx → BitVec 32) (ix2 i l) = BitVec.ofNat 32 j.val) →
        (V (main_arg1 : DevRef τ sig) : S16x128.Idx → BitVec 32) (ix2 i k) = BitVec.ofNat 32 j.val ∧
        ∀ l : Fin 128, l < k → (V (main_arg1 : DevRef τ sig) : S16x128.Idx → BitVec 32) (ix2 i l) ≠ BitVec.ofNat 32 j.val) := by
  obtain ⟨k, hk, h⟩ := argmax_at (cmpi CmpIPredicate.eq
          (broadcastInDim S16x128x128 ![0, 1, 2] bcast_S16x128x1_S16x128x128_0_1_2
            (broadcastInDim S16x128x1 ![0, 1] bcast_S16x128_S16x128x1_0_1 (V (Proc.tc.devRef main_arg1) : S16x128.Idx → BitVec 32)))
          (broadcastInDim S16x128x128 ![0, 1, 2] bcast_S1x1x128_S16x128x128_0_1_2
            (broadcastInDim S1x1x128 ![2] bcast_S128_S1x1x128_2 (iotaInDim S128 32 0)))) i j
  refine ⟨k, Eq.trans ?_ hk, ?_⟩
  · after_reads_at
  · have e : ∀ l : Fin 128, (cmpi CmpIPredicate.eq
          (broadcastInDim S16x128x128 ![0, 1, 2] bcast_S16x128x1_S16x128x128_0_1_2
            (broadcastInDim S16x128x1 ![0, 1] bcast_S16x128_S16x128x1_0_1 (V (Proc.tc.devRef main_arg1) : S16x128.Idx → BitVec 32)))
          (broadcastInDim S16x128x128 ![0, 1, 2] bcast_S1x1x128_S16x128x128_0_1_2
            (broadcastInDim S1x1x128 ![2] bcast_S128_S1x1x128_2 (iotaInDim S128 32 0)))) (ix3 i l j) = 1#1 ↔
        (V (Proc.tc.devRef main_arg1) : S16x128.Idx → BitVec 32) (ix2 i l) = BitVec.ofNat 32 j.val := fun l => by
      pointwise
      exact cmpi_word _ _
    intro hl
    obtain ⟨l, hl⟩ := hl
    obtain ⟨h1, h2⟩ := h ⟨l, (e l).2 hl⟩
    exact ⟨(e k).1 h1, fun l hl hv => h2 l hl ((e l).2 hv)⟩

/-- A word below 128 is in range and needs no wrapping. -/
theorem wrap_word (w : BitVec 32) (h : w.toNat < 128) :
    Scalar.select (IntOp.cmpi .slt w 0#32) (IntOp.addi w 128#32) w = w := by
  rw [slt_small w 0#32 h (by decide)]
  simp [Scalar.select]

theorem wrap_batch (w : BitVec 32) (h : w.toNat < 128) :
    Scalar.select (IntOp.cmpi .slt w 0#32) (IntOp.addi w 16#32) w = w := by
  rw [slt_small w 0#32 h (by decide)]
  simp [Scalar.select]

theorem range_word (w : BitVec 32) (h : w.toNat < 128) :
    IntOp.andi (IntOp.cmpi .sge w 0#32) (IntOp.cmpi .sle w 127#32) = 1#1 := by
  have e : w.toInt = (w.toNat : ℤ) := BitVec.toInt_eq_toNat_of_lt (by omega)
  have e0 : (0#32).sle w = true := by rw [BitVec.sle, e]; simp
  have e1 : w.sle 127#32 = true := by rw [BitVec.sle, e]; simp; omega
  simp [IntOp.cmpi, IntOp.andi, e0, e1]

theorem small_word (k : Fin 128) : (BitVec.ofNat 32 k.val).toNat < 128 := by
  rw [BitVec.toNat_ofNat, Nat.mod_eq_of_lt (by omega)]; exact k.isLt

theorem fold_ones : Finset.fold IntOp.andi (1#1) (fun _ : Fin 1 => 1#1) Finset.univ = 1#1 := by
  rw [Finset.univ_unique, Finset.fold_singleton]; decide

/-- The score row the found position names. -/
theorem obj_at (i : Fin 16) (j k : Fin 128)
    (h : (V (main_v7 : DevRef τ sig) : S16x128.Idx → BitVec 32) (ix2 i j) = BitVec.ofNat 32 k.val) :
    (after opsObj V (main_v8 : DevRef τ sig) : S16x128.Idx → BitVec 32) (ix2 i j)
      = (V (main_arg0 : DevRef τ sig) : S16x128.Idx → BitVec 32) (ix2 i k) := by
  after_reads_at
  rw [h, wrap_word _ (small_word k), range_word _ (small_word k), fold_ones]
  refine (show Scalar.select (1#1) _ _ = _ from rfl).trans (gather_obj _ _ i j k ?_)
  show Scalar.select (IntOp.cmpi .slt ((V (main_v7 : DevRef τ sig) : S16x128.Idx → BitVec 32) (ix2 i j)) 0#32) (IntOp.addi ((V (main_v7 : DevRef τ sig) : S16x128.Idx → BitVec 32) (ix2 i j)) 128#32)
    ((V (main_v7 : DevRef τ sig) : S16x128.Idx → BitVec 32) (ix2 i j)) = _
  rw [h, wrap_word _ (small_word k)]

/-- The attention row at the found position. -/
theorem att_row (b : Fin 4) (i : Fin 16) (j k : Fin 128) (s : Fin 2048)
    (h : (V (main_v7 : DevRef τ sig) : S16x128.Idx → BitVec 32) (ix2 i j) = BitVec.ofNat 32 k.val) :
    (after opsAtt V (main_v27 : DevRef τ sig) : S4x16x128x2048.Idx → EReal) (ix4 b i j s)
      = (V (main_arg3 : DevRef τ sig) : S4x16x128x2048.Idx → EReal) (ix4 b i k s) := by
  after_reads_at
  rw [h, wrap_word _ (small_word k), range_word _ (small_word k), fold_ones]
  refine (show Scalar.select (1#1) _ _ = _ from rfl).trans (gather_att _ _ b i j s k ?_)
  show Scalar.select (IntOp.cmpi .slt ((V (main_v7 : DevRef τ sig) : S16x128.Idx → BitVec 32) (ix2 i j)) 0#32) (IntOp.addi ((V (main_v7 : DevRef τ sig) : S16x128.Idx → BitVec 32) (ix2 i j)) 128#32)
    ((V (main_v7 : DevRef τ sig) : S16x128.Idx → BitVec 32) (ix2 i j)) = _
  rw [h, wrap_word _ (small_word k)]

theorem pair_left (x y : S16x128x1.Idx → BitVec 32) (i : Fin 16) (j : Fin 128) :
    concatenate S16x128x2 2 [⟨S16x128x1, x⟩, ⟨S16x128x1, y⟩] concatenates_S16x128x1_S16x128x1_S16x128x2_d2
      (ix3 i j (0 : Fin 2)) = x (ix3 i j (0 : Fin 1)) := by
  pointwise

theorem pair_right (x y : S16x128x1.Idx → BitVec 32) (i : Fin 16) (j : Fin 128) :
    concatenate S16x128x2 2 [⟨S16x128x1, x⟩, ⟨S16x128x1, y⟩] concatenates_S16x128x1_S16x128x1_S16x128x2_d2
      (ix3 i j (1 : Fin 2)) = y (ix3 i j (0 : Fin 1)) := by
  pointwise

/-- The sign row a score row's name picks. -/
theorem syb_at (i : Fin 16) (j : Fin 128) (s : Fin 2048)
    (h : ((V (main_v8 : DevRef τ sig) : S16x128.Idx → BitVec 32) (ix2 i j)).toNat < 128) :
    (after opsSyb V (main_v25 : DevRef τ sig) : S16x128x2048.Idx → BitVec 32) (ix3 i j s)
      = (V (main_arg2 : DevRef τ sig) : S16x128x2048.Idx → BitVec 32)
          (ix3 i (rowOf ((V (main_v8 : DevRef τ sig) : S16x128.Idx → BitVec 32) (ix2 i j))) s) := by
  have e : after opsSyb V (main_v25 : DevRef τ sig)
      = Host.gather gather_S16x128x2048_S16x128x2_S16x128x2048_2_01_n_n_01_2_112048 (V (main_arg2 : DevRef τ sig) : S16x128x2048.Idx → BitVec 32)
          (concatenate S16x128x2 2 [⟨S16x128x1, after opsSyb V (main_v22 : DevRef τ sig)⟩, ⟨S16x128x1, after opsSyb V (main_v23 : DevRef τ sig)⟩]
            concatenates_S16x128x1_S16x128x1_S16x128x2_d2) := rfl
  rw [e]
  refine gather_syb _ _ i j s i _ ?_ ?_
  · rw [pair_left]
    after_reads_at
    exact wrap_batch _ (by rw [BitVec.toNat_ofNat, Nat.mod_eq_of_lt (by omega)]; omega)
  · rw [pair_right]
    after_reads_at
    rw [wrap_word _ h]
    exact (rowOf_eq h _).2 rfl

end Cert.Proof.R
-- ==== Proof.RefValue.lean ====
/-
  The number the reference leaves: the mean loss.
-/
module

public import proofs.«01_k».proof.Proof.Stage
public import Idealize.ShloMosaic.Lib.IndicatorCount
public import Idealize.ShloMosaic.Lib.Pipeline.Frame

@[expose] public section

noncomputable section

namespace Cert.Proof.R

open Cert.ReferenceIdeal Cert.ReferenceIdeal.Gen
open Idealize.ShloMosaic Idealize.ShloMosaic.TcCoe Idealize.ShloMosaic.StableHlo

variable (V : Valuation τ sig (Elt Ideal))

/-- The valid positions. -/
def atV (i : Fin 16) (l : Fin 128) : BitVec 32 := (V (main_arg1 : DevRef τ sig) : S16x128.Idx → BitVec 32) (ix2 i l)
/-- The score rows they name. -/
def atG (i : Fin 16) (l : Fin 128) : BitVec 32 := (V (main_arg0 : DevRef τ sig) : S16x128.Idx → BitVec 32) (ix2 i l)
/-- The sign table. -/
def atY (i : Fin 16) (l : Fin 128) (s : Fin 2048) : BitVec 32 := (V (main_arg2 : DevRef τ sig) : S16x128x2048.Idx → BitVec 32) (ix3 i l s)
/-- The scores. -/
def atA (b : Fin 4) (i : Fin 16) (l : Fin 128) (s : Fin 2048) : EReal := (V (main_arg3 : DevRef τ sig) : S4x16x128x2048.Idx → EReal) (ix4 b i l s)

/-! ## First holders, counted by position and by label -/

/-- Summing over the leading positions is summing over the labels that occur, each at its first holder. -/
theorem sum_leads (v : Fin 128 → BitVec 32) (hv : ∀ l, (v l).toNat < 128) (k : Fin 128 → Fin 128)
    (hk : ∀ j : Fin 128, (∃ l, v l = BitVec.ofNat 32 j.val) →
      v (k j) = BitVec.ofNat 32 j.val ∧ ∀ l, l < k j → v l ≠ BitVec.ofNat 32 j.val)
    (P : Fin 128 → ℝ) (hP : ∀ j, P j = if ∃ l, v l = BitVec.ofNat 32 j.val then 1 else 0) (f : Fin 128 → ℝ) :
    ∑ j, f (k j) * P j = ∑ l, f l * leads v l := by
  have e1 : ∀ l, f l * leads v l = ∑ j : Fin 128, if rowOf (v l) = j then f l * leads v l else 0 := fun l => by
    rw [Finset.sum_ite_eq]; simp
  rw [Finset.sum_congr rfl fun l _ => e1 l, Finset.sum_comm]
  refine Finset.sum_congr rfl fun j _ => ?_
  rw [hP]
  by_cases h : ∃ l, v l = BitVec.ofNat 32 j.val
  · obtain ⟨h1, h2⟩ := hk j h
    rw [if_pos h, Finset.sum_eq_single (k j)]
    · rw [if_pos ((rowOf_eq (hv _) j).1 h1)]
      unfold leads
      rw [if_pos fun l hl => by rw [h1]; exact h2 l hl]
    · intro l _ hne
      by_cases hr : rowOf (v l) = j
      · have hl := (rowOf_eq (hv l) j).2 hr
        rw [if_pos hr]
        unfold leads
        rw [if_neg, mul_zero]
        intro hall
        rcases lt_trichotomy l (k j) with hlt | heq | hgt
        · exact h2 l hlt hl
        · exact hne heq
        · exact hall (k j) hgt (h1.trans hl.symm)
      · rw [if_neg hr]
    · intro hn
      exact absurd (Finset.mem_univ _) hn
  · rw [if_neg h, mul_zero]
    refine (Finset.sum_eq_zero fun l _ => ?_).symm
    rw [if_neg fun hr => h ⟨l, (rowOf_eq (hv l) j).2 hr⟩]

/-! ## The last stage -/

theorem bit_real (z : BitVec 1) : (FloatOps.uitofp (F := Ideal) .f32 z : EReal) = ((if z = 1#1 then 1 else 0 : ℝ) : EReal) := by
  have bit : z = 0#1 ∨ z = 1#1 := by revert z; decide
  show ((z.toNat : ℝ) : EReal) = _
  rcases bit with rfl | rfl <;> simp

theorem eq_bit (w : BitVec 32) : (FloatOps.uitofp (F := Ideal) .f32 (IntOp.cmpi .eq w 0#32) : EReal) = ((if w = 0#32 then 1 else 0 : ℝ) : EReal) := by
  rw [bit_real]
  exact congrArg _ (if_congr (cmpi_word _ _) rfl rfl)

theorem sgt_bit (w : BitVec 32) (h : w = 0#32 ∨ w = 1#32) :
    (FloatOps.uitofp (F := Ideal) .f32 (IntOp.cmpi .sgt w 0#32) : EReal) = ((if w = 0#32 then 0 else 1 : ℝ) : EReal) := by
  rw [bit_real]
  rcases h with rfl | rfl
  · rw [if_neg (by decide), if_pos rfl]
  · rw [if_pos (by decide), if_neg (by decide)]

/-- The zeros' share less the ones' is the signed sum. -/
theorem signed_sum (a : Fin 2048 → ℝ) (y : Fin 2048 → BitVec 32) (hy : ∀ s, y s = 0#32 ∨ y s = 1#32) :
    (∑ s, a s * (if y s = 0#32 then 1 else 0)) - ∑ s, a s * (if y s = 0#32 then 0 else 1) = ∑ s, a s * flip (y s) := by
  rw [← Finset.sum_sub_distrib]
  refine Finset.sum_congr rfl fun s _ => ?_
  unfold flip
  rcases hy s with h | h
  · rw [h]; norm_num
  · rw [h]; norm_num

/-- The count of the flags. -/
theorem count_at (p : Fin 16 → Fin 128 → BitVec 1) :
    (FloatOps.sitofp (F := Ideal) .f32 (Finset.fold IntOp.addi (0#32)
      (fun k : Fin 16 × Fin 128 => BitVec.setWidth 32 (p k.1 k.2)) Finset.univ) : EReal)
      = ((∑ i, ∑ j, (if p i j = 1#1 then 1 else 0 : ℝ) : ℝ) : EReal) := by
  rw [IndicatorCount.fold_addi_setWidth_eq_card (fun k : Fin 16 × Fin 128 => p k.1 k.2), sitofp_coe]
  have hc : (Finset.univ.filter fun k : Fin 16 × Fin 128 => p k.1 k.2 = 1#1).card ≤ 2048 := by
    refine (Finset.card_filter_le _ _).trans ?_
    rw [Finset.card_univ, Fintype.card_prod, Fintype.card_fin, Fintype.card_fin]
  rw [BitVec.toInt_eq_toNat_of_lt (by rw [BitVec.toNat_ofNat]; omega), BitVec.toNat_ofNat, Nat.mod_eq_of_lt (by omega),
    Finset.card_filter, ← Finset.univ_product_univ, Finset.sum_product]
  push_cast
  rfl

/-- The last stage: from the rows the first stages found, the mean hinge with a margin for each absent label. -/
theorem loss_at (a : Fin 4 → Fin 16 → Fin 128 → Fin 2048 → ℝ) (y : Fin 16 → Fin 128 → Fin 2048 → BitVec 32)
    (hy : ∀ i j s, y i j s = 0#32 ∨ y i j s = 1#32)
    (ha : ∀ b i j s, (V (main_v27 : DevRef τ sig) : S4x16x128x2048.Idx → EReal) (ix4 b i j s) = ((a b i j s : ℝ) : EReal))
    (h25 : ∀ i j s, (V (main_v25 : DevRef τ sig) : S16x128x2048.Idx → BitVec 32) (ix3 i j s) = y i j s)
    (P : Fin 16 → Fin 128 → ℝ)
    (hP : ∀ i j, P i j = if (V (main_v6 : DevRef τ sig) : S16x128.Idx → BitVec 1) (ix2 i j) = 1#1 then 1 else 0) (z : S_.Idx) :
    (after opsLoss V (main_v59 : DevRef τ sig) : S_.Idx → EReal) z
      = (((∑ b, ∑ i, ∑ j, hinge (∑ s, a b i j s * flip (y i j s)) * P i j
          + (8192 - 4 * ∑ i, ∑ j, P i j) * margin) / 8192 : ℝ) : EReal) := by
  after_reads_at
  rw [count_at fun i j => (V (main_v6 : DevRef τ sig) : S16x128.Idx → BitVec 1) (ix2 i j)]
  simp only [ha, h25, bit_real, ← hP, cmpi_word]
  have hs : ∀ i j s, (if IntOp.cmpi .sgt (y i j s) 0#32 = 1#1 then 1 else 0 : ℝ) = if y i j s = 0#32 then 0 else 1 := fun i j s => by
    rcases hy i j s with h | h <;> rw [h] <;> simp [IntOp.cmpi]
  simp only [hs, ← EReal.coe_mul, coe_sum, ← EReal.coe_sub, word_margin, word_8192, word_four, ← EReal.coe_add, coe_hinge,
    signed_sum _ _ (hy _ _)]
  rw [Ideal.div_coe (by norm_num), ← EReal.coe_mul]
  congr 1
  ring

/-! ## The whole line -/

/-- The reference's result is the mean loss. -/
theorem reference_value (hv : ∀ i l, (atV V i l).toNat < 128) (hg : ∀ i l, (atG V i l).toNat < 128)
    (hy : ∀ i l s, atY V i l s = 0#32 ∨ atY V i l s = 1#32) (a : Fin 4 → Fin 16 → Fin 128 → Fin 2048 → ℝ)
    (ha : ∀ b i l s, atA V b i l s = ((a b i l s : ℝ) : EReal)) :
    (after ops V (main_v59 : DevRef τ sig) : S_.Idx → EReal) = fun _ => ((total (atV V) (atG V) (atY V) a : ℝ) : EReal) := by
  classical
  choose k hk hk' using spot_at V
  have e : after ops V = after opsLoss (after opsAtt (after opsSyb (after opsObj (after opsPresent V)))) := by
    simp only [ops, after_append]
  funext z
  rw [e]
  have h7 : ∀ i j, (after opsSyb (after opsObj (after opsPresent V)) (main_v7 : DevRef τ sig) : S16x128.Idx → BitVec 32) (ix2 i j)
      = BitVec.ofNat 32 (k i j).val := fun i j => (show _ = _ from rfl : _ = (after opsPresent V (main_v7 : DevRef τ sig) : S16x128.Idx → BitVec 32) (ix2 i j)).trans (hk i j)
  have h8 : ∀ i j, (after opsObj (after opsPresent V) (main_v8 : DevRef τ sig) : S16x128.Idx → BitVec 32) (ix2 i j) = atG V i (k i j) :=
    fun i j => obj_at (after opsPresent V) i j (k i j) (hk i j)
  refine (loss_at _ (fun b i j s => a b i (k i j) s) (fun i j s => atY V i (rowOf (atG V i (k i j))) s) (fun i j s => hy _ _ _)
    (fun b i j s => (att_row _ b i j (k i j) s (h7 i j)).trans (ha b i (k i j) s)) (fun i j s => ?_)
    (fun i j => if ∃ l, atV V i l = BitVec.ofNat 32 j.val then 1 else 0) (fun i j => if_congr (present_at V i j).symm rfl rfl) z).trans ?_
  · refine (syb_at (after opsObj (after opsPresent V)) i j s (by rw [h8]; exact hg _ _)).trans ?_
    rw [h8]; rfl
  · congr 1
    have hs : ∀ i (f : Fin 128 → ℝ), ∑ j, f (k i j) * (if ∃ l, atV V i l = BitVec.ofNat 32 j.val then 1 else 0 : ℝ) = ∑ l, f l * leads (atV V i) l :=
      fun i f => sum_leads (atV V i) (hv i) (k i) (hk' i) _ (fun _ => rfl) f
    have h1 : ∀ i, ∑ j : Fin 128, (if ∃ l, atV V i l = BitVec.ofNat 32 j.val then 1 else 0 : ℝ) = ∑ l, leads (atV V i) l := fun i => by
      simpa using hs i fun _ => 1
    have h2 : ∀ b i, ∑ j, hinge (∑ s, a b i (k i j) s * flip (atY V i (rowOf (atG V i (k i j))) s)) * (if ∃ l, atV V i l = BitVec.ofNat 32 j.val then 1 else 0 : ℝ)
        = ∑ l, hinge (pull (atG V i l) (atY V i) (a b i l)) * leads (atV V i) l := fun b i =>
      hs i fun l => hinge (pull (atG V i l) (atY V i) (a b i l))
    simp only [h1, h2]
    unfold total loss
    rw [Finset.sum_add_distrib, Finset.sum_comm, ← Finset.sum_mul, ← Finset.mul_sum, Finset.sum_sub_distrib]
    have h128 : ∑ _i : Fin 16, (128 : ℝ) = 2048 := by rw [Finset.sum_const, Finset.card_univ, Fintype.card_fin]; norm_num
    rw [h128]
    ring

end Cert.Proof.R
-- ==== Proof.Drawn.lean ====
/-
  What the precondition says of one element: the row indices are below 128, the sign table holds zeros and ones, and the
  scores are real numbers.
-/
module

public import proofs.«01_k».proof.Defs
public import Idealize.ShloMosaic.Lib.ReduceAll
public import Idealize.ShloMosaic.Lib.Pointwise

@[expose] public section

noncomputable section

namespace Cert.Proof

open Idealize.ShloMosaic

/-- The shapes' side conditions of the precondition. -/
theorem drawn_facts : Cert.Pre_drawn.Facts where
  bcast_S_S16x128 := by decide
  reducesTo_S16x128_S_d0_1 := by decide
  h_S_ := by decide
  bcast_S_S16x128x2048 := by decide
  reducesTo_S16x128x2048_S_d0_1_2 := by decide
  bcast_S_S4x16x128x2048 := by decide
  reducesTo_S4x16x128x2048_S_d0_1_2_3 := by decide

theorem both_bits : ∀ z w : BitVec 1, IntOp.andi z w = 1#1 ↔ z = 1#1 ∧ w = 1#1 := by decide

/-- A word the signed comparisons put in `[0, n)`. -/
theorem word_range (w : BitVec 32) (n : Nat) (hn : n < 2 ^ 31)
    (h : IntOp.andi (IntOp.cmpi .sge w 0#32) (IntOp.cmpi .slt w (BitVec.ofNat 32 n)) = 1#1) : w.toNat < n := by
  obtain ⟨h0, h1⟩ := (both_bits _ _).1 h
  have hb : ∀ b, BitVec.ofBool b = 1#1 → b = true := by decide
  have e0 : (0#32).sle w = true := hb _ h0
  have e1 : w.slt (BitVec.ofNat 32 n) = true := hb _ h1
  have g0 : 0 ≤ w.toInt := by simpa [BitVec.sle] using e0
  have g1 : w.toInt < n := by
    have hN : (BitVec.ofNat 32 n).toInt = n := by
      rw [BitVec.toInt_eq_toNat_of_lt (by rw [BitVec.toNat_ofNat]; omega), BitVec.toNat_ofNat, Nat.mod_eq_of_lt (by omega)]
    have := of_decide_eq_true e1
    rwa [hN] at this
  rw [BitVec.toInt_eq_toNat_cond] at g0 g1
  split_ifs at g0 g1 <;> omega

/-- A word below two is zero or one. -/
theorem word_bit (w : BitVec 32) (h : w.toNat < 2) : w = 0#32 ∨ w = 1#32 := by
  have : w.toNat = 0 ∨ w.toNat = 1 := by omega
  rcases this with h | h
  · exact Or.inl (BitVec.eq_of_toNat_eq h)
  · exact Or.inr (BitVec.eq_of_toNat_eq h)

/-- A value whose magnitude is below infinity is a real number. -/
theorem finite_value (x : Ideal .f32)
    (h : FloatOps.cmpf .olt (FloatOps.hostAbsf x) (FloatOps.ofBits (F := Ideal) .f32 0x7F800000#32) = 1#1) :
    (x : EReal) = (((x : EReal).toReal : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hne
    simp [Ideal.cmp, hne] at h
  obtain ⟨h1, h2⟩ := max_lt_iff.1 hlt
  refine (EReal.coe_toReal (ne_of_lt h1) fun hb => ?_).symm
  rw [hb] at h2
  simp at h2

open Cert.Pre_drawn in
/-- The precondition, element by element. -/
theorem drawn_elements [Cert.Pre_drawn.Facts] (x0 x1 : IVec S16x128 32) (x2 : IVec S16x128x2048 32)
    (x3 : FVec Ideal S4x16x128x2048 .f32) (x4 : IVec S16 32) (h : Cert.Pre_drawn.fn (F := Ideal) x0 x1 x2 x3 x4 = fun _ => 1#1) :
    (∀ i, (x0 i).toNat < 128) ∧ (∀ i, (x1 i).toNat < 128) ∧ (∀ i, x2 i = 0#32 ∨ x2 i = 1#32) ∧
      ∀ i, (x3 i : EReal) = (((x3 i : EReal).toReal : ℝ) : EReal) := by
  have sub : Subsingleton S_.Idx := ⟨fun a b => funext fun i => i.elim0⟩
  have z : S_.Idx := fun i => i.elim0
  have h := congrFun h z
  obtain ⟨h, h3⟩ := (both_bits _ _).1 h
  obtain ⟨h, h2⟩ := (both_bits _ _).1 h
  obtain ⟨h0, h1⟩ := (both_bits _ _).1 h
  refine ⟨fun i => ?_, fun i => ?_, fun i => ?_, fun i => ?_⟩
  · exact word_range _ 128 (by decide) (Host.reduce_andi_all _ _ _ _ z h0 i)
  · exact word_range _ 128 (by decide) (Host.reduce_andi_all _ _ _ _ z h1 i)
  · exact word_bit _ (word_range _ 2 (by decide) (Host.reduce_andi_all _ _ _ _ z h2 i))
  · exact finite_value _ (Host.reduce_andi_all _ _ _ _ z h3 i)

end Cert.Proof
-- ==== Proof.Value.lean ====
/-
  The two programs' results are one number.
-/
module

public import proofs.«01_k».proof.Proof.Frames
public import proofs.«01_k».proof.Proof.Total
public import proofs.«01_k».proof.Proof.RefValue
public import proofs.«01_k».proof.Proof.Drawn

@[expose] public section

noncomputable section

namespace Cert.Proof

open Idealize.ShloMosaic Idealize.ShloMosaic.TcCoe Idealize.SL.Sem

/-- The scores as real numbers. -/
def realA (m : (ℓ : Loc Cert.KernelIdeal.nD Cert.KernelIdeal.τ Cert.KernelIdeal.sig) → Buf (Elt Ideal) ℓ)
    (c : Dev Cert.KernelIdeal.nD) (b : Fin 4) (i : Fin 16) (l : Fin 128) (s : Fin 2048) : ℝ := (inA m c b i l s).toReal

/-- From the same drawn arguments the kernel and the reference leave the same result. -/
theorem value : Cert.algebraic_KernelIdeal_ReferenceIdeal_pre_drawn (hKernelIdeal := Cert.KernelIdeal.Gen.facts)
    (hReferenceIdeal := Cert.ReferenceIdeal.Gen.facts) (hPre_drawn := drawn_facts) := by
  intro m g m' g' hpre hm
  have hd := fun c => @drawn_elements drawn_facts _ _ _ _ _ (hpre c)
  refine ⟨fun c => fun _ => ((total (inV m c) (inG m c) (inY m c) (realA m c) : ℝ) : EReal), ?_, ?_⟩
  · refine (θ_run Cert.KernelIdeal.defs _ _).mono (fun _ h c => ⟨(h.1 c).1.trans ?_, (h.1 c).2⟩) (kernel_run (F := Ideal) m g)
    obtain ⟨h0, h1, -, h3⟩ := hd c
    exact kernel_value m c (realA m c) (fun i l => h1 (ix2 i l)) (fun i l => h0 (ix2 i l)) (fun b i l s => h3 (ix4 b i l s))
  · refine (θ_run Cert.ReferenceIdeal.defs _ _).mono (fun _ h c => ⟨(h.1 c).1.trans ?_, (h.1 c).2⟩) (reference_run (F := Ideal) m' g')
    obtain ⟨h0, h1, h2, h3⟩ := hd c
    obtain ⟨e0, e1, e2, e3, -⟩ := hm c
    have eV : R.atV (StableHlo.launchContents m' c) = inV m c := funext fun i => funext fun l => congrFun e1 (ix2 i l)
    have eG : R.atG (StableHlo.launchContents m' c) = inG m c := funext fun i => funext fun l => congrFun e0 (ix2 i l)
    have eY : R.atY (StableHlo.launchContents m' c) = inY m c := funext fun i => funext fun l => funext fun s => congrFun e2 (ix3 i l s)
    have eA : R.atA (StableHlo.launchContents m' c) = inA m c :=
      funext fun b => funext fun i => funext fun l => funext fun s => congrFun e3 (ix4 b i l s)
    have hr := R.reference_value (StableHlo.launchContents m' c) (fun i l => by rw [eV]; exact h1 (ix2 i l))
      (fun i l => by rw [eG]; exact h0 (ix2 i l)) (fun i l s => by rw [eY]; exact h2 (ix3 i l s)) (realA m c)
      (fun b i l s => by rw [eA]; exact h3 (ix4 b i l s))
    rw [eV, eG, eY] at hr
    exact hr

end Cert.Proof
-- ==== Proof.lean ====
/- The proof of the claim: the frames (Proof/Frames.lean), the relation of the two printed kernels, and the value. -/
module

public import proofs.«01_k».proof.Proof.Value

@[expose] public section

noncomputable section

namespace Cert.Proof

theorem claim : Cert.Claim :=
  ⟨Cert.Kernel.Gen.facts, Cert.KernelIdeal.Gen.facts, Cert.ReferenceIdeal.Gen.facts, drawn_facts,
    frame_kernel, frame_ideal, fun m g _ => frame_ideal m g trivial, frame_reference,
    fun m g _ => frame_reference m g trivial, trivial, value⟩

end Cert.Proof

end
